-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S512x512 : Shape := ⟨2, ![512, 512]⟩
abbrev S4 : Shape := ⟨1, ![4]⟩
abbrev S_ : Shape := ⟨0, ![]⟩
abbrev S1x128x512 : Shape := ⟨3, ![1, 128, 512]⟩
abbrev S128x512 : Shape := ⟨2, ![128, 512]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1x512x1024, .bf16⟩
  | .hbm, ⟨1, _⟩ => ⟨S512x512, .f32⟩
  | .local _ .vmem, ⟨0, _⟩ => ⟨S1x512x1024, .bf16⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_16 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v23 : BitVec 32 := Scalar.muli v9 c4_i32_15
  let v24 : BitVec 32 := Scalar.addi c0_i32_16 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v25 : BitVec 32 := Scalar.muli v5 c2_i32_17
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.muli v8 c1_i32_18
  let v28 : BitVec 32 := Scalar.addi v26 v27
  v28.toNat
def k0_dev3 (d0 : Dev nD) : Nat :=
  let c0_i32_30 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_29 : BitVec 32 := 4#32
  let v41 : BitVec 32 := Scalar.muli v9 c4_i32_29
  let v42 : BitVec 32 := Scalar.addi c0_i32_30 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v43 : BitVec 32 := Scalar.muli v5 c2_i32_31
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v45 : BitVec 32 := Scalar.muli v8 c1_i32_32
  let v46 : BitVec 32 := Scalar.addi v44 v45
  v46.toNat
def k0_dev4 (d0 : Dev nD) : Nat :=
  let c0_i32_43 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_42 : BitVec 32 := 4#32
  let v59 : BitVec 32 := Scalar.muli v9 c4_i32_42
  let v60 : BitVec 32 := Scalar.addi c0_i32_43 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v61 : BitVec 32 := Scalar.muli v5 c2_i32_44
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v63 : BitVec 32 := Scalar.muli v8 c1_i32_45
  let v64 : BitVec 32 := Scalar.addi v62 v63
  v64.toNat
def k0_dev5 (d0 : Dev nD) : Nat :=
  let c0_i32_55 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_54 : BitVec 32 := 4#32
  let v77 : BitVec 32 := Scalar.muli v9 c4_i32_54
  let v78 : BitVec 32 := Scalar.addi c0_i32_55 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v79 : BitVec 32 := Scalar.muli v5 c2_i32_56
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v81 : BitVec 32 := Scalar.muli v8 c1_i32_57
  let v82 : BitVec 32 := Scalar.addi v80 v81
  v82.toNat
abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x512x1024, .bf16⟩
  | .hbm, ⟨1, _⟩ => ⟨S2x512x1024, .f32⟩
  | .hbm, ⟨2, _⟩ => ⟨S_, .f32⟩
  | .hbm, ⟨3, _⟩ => ⟨S512x1024, .f32⟩
  | .hbm, ⟨4, _⟩ => ⟨S512x1024, .bf16⟩
  | .hbm, ⟨5, _⟩ => ⟨S512x1024, .f32⟩
  | _, _ => ⟨S2x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdeal.Chunks.lean ====
/-
The exchange along the mesh axis `x`: who talks to whom, the four row chunks of a 512-row buffer, and what the
kernel keeps in each of them.

A device of side `b` (its coordinate along `x`) keeps columns `512 b … 512 b + 511` of the sum and sends the other
half of its own columns to the device across, 128 rows at a time.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices -/

set_option backward.proofsInPublic true in
/-- The device across: the same place on the other two axes, the other side of `x`. -/
def across (c : Dev nD) : Dev nD := ⟨(c.val + 4) % 8, Nat.mod_lt _ (by decide)⟩

theorem across_across (c : Dev nD) : across (across c) = c := by revert c; decide

def swap : Dev nD ≃ Dev nD := ⟨across, across, across_across, across_across⟩

set_option backward.proofsInPublic true in
/-- A device's coordinate along `x`. -/
def side (c : Dev nD) : Fin 2 := ⟨c.val / 4, by have := c.isLt; change c.val < 8 at this; omega⟩

/-- The other of the two sides. -/
def flip (b : Fin 2) : Fin 2 := 1 - b

theorem side_across (c : Dev nD) : side (across c) = flip (side c) := by revert c; decide
theorem flip_flip (b : Fin 2) : flip (flip b) = b := by revert b; decide

/-- The signal and the four transfers all name the device across. -/
theorem target_signal (c : Dev nD) : (⟨k0_dev1 c, k0_dev1_lt c⟩ : Dev nD) = across c :=
  Fin.ext ((k0_dev1_eq c).trans (by revert c; decide))
theorem target_0 (c : Dev nD) : (⟨k0_dev2 c, k0_dev2_lt c⟩ : Dev nD) = across c :=
  Fin.ext ((k0_dev2_eq c).trans (by revert c; decide))
theorem target_1 (c : Dev nD) : (⟨k0_dev3 c, k0_dev3_lt c⟩ : Dev nD) = across c :=
  Fin.ext ((k0_dev3_eq c).trans (by revert c; decide))
theorem target_2 (c : Dev nD) : (⟨k0_dev4 c, k0_dev4_lt c⟩ : Dev nD) = across c :=
  Fin.ext ((k0_dev4_eq c).trans (by revert c; decide))
theorem target_3 (c : Dev nD) : (⟨k0_dev5 c, k0_dev5_lt c⟩ : Dev nD) = across c :=
  Fin.ext ((k0_dev5_eq c).trans (by revert c; decide))

/-- The kernel's word for its coordinate along `x`. -/
abbrev sideWord (c : Dev nD) : BitVec 32 := Scalar.remsi (Scalar.divsi (Dev.word c) 4#32) 2#32

theorem on_side_0 (c : Dev nD) :
    (Scalar.cmpi .ne (Scalar.extui (Scalar.cmpi .eq (sideWord c) 0#32) : BitVec 32) 0#32 = 1#1) ↔ side c = 0 := by
  revert c; decide
theorem on_side_1 (c : Dev nD) :
    (Scalar.cmpi .ne (Scalar.extui (Scalar.cmpi .eq (sideWord c) 1#32) : BitVec 32) 0#32 = 1#1) ↔ side c = 1 := by
  revert c; decide

/-! ## The buffers and their row chunks -/

abbrev xM : Memref sig .tc .vmem S1x512x1024 .bf16 := Memref.whole cc0_stg0_0
abbrev oM : Memref sig .tc .vmem S512x512 .f32 := Memref.whole cc0_stg1_0
abbrev sM : Memref sig .tc .vmem S512x512 .bf16 := Memref.whole cc0_scratch0
abbrev rM : Memref sig .tc .vmem S512x512 .bf16 := Memref.whole cc0_scratch1

theorem chunk_inb (k : Fin 4) : ∀ a, (![128 * k.val, 0] : Fin 2 → Nat) a + S128x512.size a ≤ S512x512.size a := by
  revert k; decide
theorem block_inb (k : Fin 4) (b : Fin 2) :
    ∀ a, (![0, 128 * k.val, 512 * b.val] : Fin 3 → Nat) a + S1x128x512.size a ≤ S1x512x1024.size a := by
  revert k b; decide

/-- Rows `128 k … 128 k + 127` of a 512 by 512 buffer. -/
abbrev chunk (k : Fin 4) : Rect S512x512 := Rect.unit (s := S512x512) ![128 * k.val, 0] S128x512.size (chunk_inb k)

/-- The same rows of a device's argument block, in the columns of side `b`. -/
abbrev block (k : Fin 4) (b : Fin 2) : Rect S1x512x1024 :=
  Rect.unit (s := S1x512x1024) ![0, 128 * k.val, 512 * b.val] S1x128x512.size (block_inb k b)

/-- Chunk `k` of a buffer, as a memref. -/
abbrev part {e : EltTy} (M : Memref sig .tc .vmem S512x512 e) (k : Fin 4) : Memref sig .tc .vmem S128x512 e :=
  M.slice (chunk k) (fun _ => rfl)

theorem chunk_disjoint (k k' : Fin 4) (h : k ≠ k') : Disjoint (chunk k).set (chunk k').set :=
  Rect.unit_disjoint (s := S512x512) (0 : Fin 2) (by
    show 128 * k.val + 128 ≤ 128 * k'.val ∨ 128 * k'.val + 128 ≤ 128 * k.val
    have := Fin.val_ne_of_ne h; omega)

theorem chunk_cover : (Finset.univ : Finset (Fin 4)).biUnion (fun k => (chunk k).set) = Finset.univ := by
  ext i
  simp only [Finset.mem_biUnion, Finset.mem_univ, true_and, iff_true]
  have h0 : (i 0 : Nat) < 512 := (i 0).isLt
  have h1 : (i 1 : Nat) < 512 := (i 1).isLt
  refine ⟨⟨(i 0 : Nat) / 128, by omega⟩, Rect.mem_set_unit.mpr fun a => ?_⟩
  fin_cases a
  · show 128 * ((i 0 : Nat) / 128) ≤ (i 0 : Nat) ∧ (i 0 : Nat) < 128 * ((i 0 : Nat) / 128) + 128
    omega
  · show 0 ≤ (i 1 : Nat) ∧ (i 1 : Nat) < 0 + 512
    omega

set_option backward.proofsInPublic true in
/-- Four chunks one under another. -/
def stack {α : Type} (Y : Fin 4 → S128x512.Idx → α) : S512x512.Idx → α := fun i =>
  Y ⟨(i 0 : Nat) / 128, by have h : (i 0 : Nat) < 512 := (i 0).isLt; omega⟩
    (fun a => match a with
      | ⟨0, _⟩ => ⟨(i 0 : Nat) % 128, Nat.mod_lt _ (by decide)⟩
      | ⟨1, _⟩ => ⟨(i 1 : Nat), (i 1).isLt⟩)

/-- Read on a chunk, they are that chunk. -/
theorem stack_chunk {α : Type} (Y : Fin 4 → S128x512.Idx → α) (k : Fin 4) : (fun j => stack Y ((chunk k).emb j)) = Y k := by
  funext j
  have h0 : (j 0 : Nat) < 128 := (j 0).isLt
  have e0 : (((chunk k).emb j) 0 : Nat) = 128 * k.val + (j 0 : Nat) := by
    show 128 * k.val + 1 * (j 0 : Nat) = _; omega
  have e1 : (((chunk k).emb j) 1 : Nat) = (j 1 : Nat) := by
    show 0 + 1 * (j 1 : Nat) = _; omega
  unfold stack
  congr 1
  · exact Fin.ext (by show (((chunk k).emb j) 0 : Nat) / 128 = k.val; omega)
  · funext a
    fin_cases a
    · exact Fin.ext (by show (((chunk k).emb j) 0 : Nat) % 128 = (j 0 : Nat); omega)
    · exact Fin.ext e1

/-! ## The semaphores -/

/-- The runtime's barrier semaphore. -/
abbrev barS : Sem sig := (SemArray.scalar (sig.barrier 0 rfl) : Sems sig S_).sem

set_option backward.proofsInPublic true in
/-- The semaphore of the `k`-th chunk's departure; -/
def sentS (k : Fin 4) : DmaSem sig := ⟨2 + k.val, by have := k.isLt; show 2 + k.val < 10; omega⟩
set_option backward.proofsInPublic true in
/-- and of its arrival. -/
def gotS (k : Fin 4) : DmaSem sig := ⟨6 + k.val, by have := k.isLt; show 6 + k.val < 10; omega⟩

/-! ## Contents -/

variable (m : (ℓ : Loc nD τ sig) → Buf (Elt F) ℓ)

/-- Device `c`'s argument, as its body finds it staged. -/
def arg (c : Dev nD) : (cc0_stg0_0 : Ref sig .tc).ty.Contents (Elt F) :=
  (win0_0.blk (0 : Fin 1)).view.read (Elt F) (m ((c : Thread nD τ).loc main_arg0))

/-- Chunk `k` of the columns of side `b` of device `c`'s argument. -/
def argPart (c : Dev nD) (k : Fin 4) (b : Fin 2) : Vec F S1x128x512 .bf16 :=
  (xM : Memref sig .tc .vmem S1x512x1024 .bf16).view.readAt (Elt F) (block k b).toLoadRect (arg m c)

/-- What device `c` sends in chunk `k`: the columns the device across keeps. -/
def sent (c : Dev nD) (k : Fin 4) : Vec F S128x512 .bf16 := k0_pay2 (argPart m c k (flip (side c)))

/-- What device `c` leaves in chunk `k` of its result: its own columns plus what came from across. -/
def kept (c : Dev nD) (k : Fin 4) : Vec F S128x512 .f32 := k0_pay1 (argPart m c k (side c)) (sent m (across c) k)

/-- Device `c`'s whole result: the chunks one under another. -/
def result (c : Dev nD) : (cc0_stg1_0 : Ref sig .tc).ty.Contents (Elt F) := stack (kept m c)

end Cert.KernelIdeal.Exchange

end
-- ==== Proof.KernelIdeal.Schedule.lean ====
/-
The schedule of the exchange: nine semaphore cells a device — the runtime's barrier, four departures, four arrivals —,
one round each, with one contribution in it, and what that contribution hands to the waiting device.

* The barrier: the device across says that its receive buffer may be written, and hands over that buffer's chunks.
* The departure of chunk `k`: the chunk of the send buffer comes back.
* The arrival of chunk `k`: the chunk of the receive buffer comes back, holding what was sent.
-/
module

public import proofs.«01_k».proof.Proof.KernelIdeal.Chunks

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Two copies of the rounds: the pipeline's own and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

variable (m : (ℓ : Loc nD τ sig) → Buf (Elt F) ℓ)

/-! ## The cells -/

/-- What a cell is for. -/
inductive Role
  | bar
  | sent (k : Fin 4)
  | got (k : Fin 4)
  deriving DecidableEq

abbrev roles : List Role := [.bar, .sent 0, .sent 1, .sent 2, .sent 3, .got 0, .got 1, .got 2, .got 3]

theorem mem_roles (r : Role) : r ∈ roles := by
  cases r with
  | bar => decide
  | sent k => revert k; decide
  | got k => revert k; decide

instance : Fintype Role := ⟨⟨roles, by decide⟩, mem_roles⟩

/-- A role's semaphore, -/
def sem : Role → SemLoc sig
  | .bar => .reg barS
  | .sent k => .dma (sentS k)
  | .got k => .dma (gotS k)

/-- and a semaphore's role, if it has one: the two staging semaphores do not. -/
def roleOf (s : SemLoc sig) : Option Role := roles.find? fun r => decide (sem r = s)

theorem roleOf_sem (r : Role) : roleOf (sem r) = some r := by revert r; decide

theorem sem_injective : Function.Injective sem := fun r r' h =>
  Option.some.inj ((roleOf_sem r).symm.trans ((congrArg roleOf h).trans (roleOf_sem r')))

abbrev cell (c : Dev nD) (r : Role) : GSem nD τ sig := ((c : Thread nD τ), sem r)

/-- The bytes of one chunk, as a transfer credits them. -/
abbrev N : ℕ := (part rM 0).view.dmaCredit
theorem credit_part (M : Memref sig .tc .vmem S512x512 .bf16) (k : Fin 4) : (part M k).view.dmaCredit = N := rfl
theorem N_pos : 0 < N := View.dmaCredit_pos _ (by decide)

/-- What the one contribution to a cell of this role credits. -/
def credit : Role → ℕ
  | .bar => 1
  | _ => N

/-! ## What a chunk holds -/

/-- Device `c` owns chunk `k` of a buffer, holding `X`; -/
def holds (c : Dev nD) {e : EltTy} (M : Memref sig .tc .vmem S512x512 e) (k : Fin 4) (X : S128x512.Idx → Elt F e) : sProp 𝕄 :=
  owns (c : Thread nD τ) (part M k) fullShare X
/-- holding anything. -/
def free (c : Dev nD) {e : EltTy} (M : Memref sig .tc .vmem S512x512 e) (k : Fin 4) : sProp 𝕄 :=
  iprop(∃ X, holds (F := F) c M k X)

theorem free_intro (c : Dev nD) {e : EltTy} (M : Memref sig .tc .vmem S512x512 e) (k : Fin 4) (X) :
    holds (F := F) c M k X ⊢ free c M k := by unfold free; iintro H; iexists X; iexact H

instance holds_storable (c : Dev nD) {e : EltTy} (M : Memref sig .tc .vmem S512x512 e) (k : Fin 4) (X) :
    BI.Storable (upEmb : UEmb _ 𝕄) (holds (F := F) c M k X) := by unfold holds; infer_instance
instance free_storable (c : Dev nD) {e : EltTy} (M : Memref sig .tc .vmem S512x512 e) (k : Fin 4) :
    BI.Storable (upEmb : UEmb _ 𝕄) (free (F := F) c M k) := by unfold free; infer_instance

/-- Four propositions, one a chunk. -/
abbrev each (Φ : Fin 4 → sProp 𝕄) : sProp 𝕄 := iprop(Φ 0 ∗ Φ 1 ∗ Φ 2 ∗ Φ 3)

theorem bigSep_each (Φ : Fin 4 → sProp 𝕄) : bigSep Finset.univ Φ = each Φ :=
  bigSep_univ_eq_bigSepL [0, 1, 2, 3] (by decide) (by decide) Φ

/-- What a cell's contribution hands its owner. -/
def pay (c : Dev nD) : Role → sProp 𝕄
  | .bar => each fun k => free (F := F) (across c) rM k
  | .sent k => free (F := F) c sM k
  | .got k => holds c rM k (sent m (across c) k)

theorem pay_bar (c : Dev nD) : pay m c .bar = each fun k => free (F := F) (across c) rM k := rfl
theorem pay_sent (c : Dev nD) (k : Fin 4) : pay m c (.sent k) = free (F := F) c sM k := rfl
theorem pay_got (c : Dev nD) (k : Fin 4) : pay m c (.got k) = holds c rM k (sent m (across c) k) := rfl

instance pay_storable (c : Dev nD) (r : Role) : BI.Storable (upEmb : UEmb _ 𝕄) (pay m c r) := by
  cases r <;> (unfold pay; infer_instance)

/-! ## The schedule -/

def Rd : Rounds.Schedule (GSem nD τ sig) Unit 𝕄 where
  duties g r := if r = 0 ∧ g.1.2 = .tc ∧ (roleOf g.2).isSome then {()} else ∅
  unitless _ := False
  amount g _ _ := ((roleOf g.2).map credit).getD 1
  payload g _ _ := ((roleOf g.2).map (pay m g.1.1)).getD iprop(emp)
  amount_pos g _ _ _ := by
    cases h : roleOf g.2 with
    | none => exact Nat.one_pos
    | some r => cases r with
      | bar => exact Nat.one_pos
      | sent k => exact N_pos
      | got k => exact N_pos

instance Rd_payload_storable (g : GSem nD τ sig) (r : ℕ) (d : Unit) :
    BI.Storable (upEmb : UEmb _ 𝕄) ((Rd (F := F) m).payload g r d) := by
  show BI.Storable upEmb (((roleOf g.2).map (pay m g.1.1)).getD iprop(emp))
  cases roleOf g.2 with
  | none => show BI.Storable upEmb iprop(emp); infer_instance
  | some r => show BI.Storable upEmb (pay m g.1.1 r); infer_instance

section Facts
variable (c : Dev nD) (r : Role)

theorem duties_at : (Rd (F := F) m).duties (cell c r) 0 = {()} := by
  dsimp only [Rd]; rw [roleOf_sem]; exact if_pos ⟨rfl, rfl, rfl⟩
theorem mem_duties : () ∈ (Rd (F := F) m).duties (cell c r) 0 := by rw [duties_at]; exact Finset.mem_singleton_self _
theorem duties_later (g : GSem nD τ sig) : ∀ n, 1 ≤ n → (Rd (F := F) m).duties g n = ∅ :=
  fun n hn => if_neg fun h => by omega
theorem amount_at (u : Unit) : (Rd (F := F) m).amount (cell c r) 0 u = credit r := by
  dsimp only [Rd]; rw [roleOf_sem]; rfl
theorem payload_at (u : Unit) : (Rd (F := F) m).payload (cell c r) 0 u = pay m c r := by
  dsimp only [Rd]; rw [roleOf_sem]; rfl
theorem expect_at : (Rd (F := F) m).expect (cell c r) 0 = credit r := by
  unfold Schedule.expect Schedule.amountOf; rw [duties_at, Finset.sum_singleton, amount_at]
theorem rest_at : bigSep ((Rd (F := F) m).duties (cell c r) 0 \ ∅) (fun d => (Rd (F := F) m).payload (cell c r) 0 d) = pay m c r := by
  rw [Finset.sdiff_empty, duties_at, bigSep_singleton, payload_at]

end Facts

/-! ## What a device owes, and in which order it may wait -/

/-- What device `c` still owes from chunk `n` on: the arrivals across. -/
def pending (c : Dev nD) (n : ℕ) : CellTallies nD τ sig Unit :=
  ∑ k ∈ Finset.univ.filter (fun k : Fin 4 => n ≤ k.val), tallyAt (cell (across c) (.got k)) () N

/-- At launch: those and the signal. -/
def owedAtStart (c : Dev nD) : CellTallies nD τ sig Unit := pending c 0 + tallyAt (cell (across c) .bar) () 1

theorem pending_step (c : Dev nD) (k : Fin 4) :
    pending c k.val = pending c (k.val + 1) + tallyAt (cell (across c) (.got k)) () N := by
  have hs : Finset.univ.filter (fun j : Fin 4 => k.val ≤ j.val) = insert k (Finset.univ.filter (fun j : Fin 4 => k.val + 1 ≤ j.val)) := by
    revert k; decide
  have hk : k ∉ Finset.univ.filter (fun j : Fin 4 => k.val + 1 ≤ j.val) := by revert k; decide
  unfold pending
  rw [hs, Finset.sum_insert hk, add_comm]

theorem pending_end (c : Dev nD) : pending c 4 = 0 := by
  unfold pending
  rw [show Finset.univ.filter (fun j : Fin 4 => 4 ≤ j.val) = ∅ by decide, Finset.sum_empty]

theorem pending_apply (c : Dev nD) (n : ℕ) (g : GSem nD τ sig) (u : Unit) :
    pending c n g u = ∑ k ∈ Finset.univ.filter (fun k : Fin 4 => n ≤ k.val), if g = cell (across c) (.got k) ∧ u = () then N else 0 := by
  unfold pending
  rw [Finset.sum_apply, Finsupp.finset_sum_apply]
  exact Finset.sum_congr rfl fun k _ => tallyAt_apply ..

theorem pending_pos {c : Dev nD} {n : ℕ} {g : GSem nD τ sig} {u : Unit} (h : 0 < pending c n g u) :
    ∃ k, g = cell (across c) (.got k) := by
  by_contra hn
  rw [pending_apply, Finset.sum_eq_zero fun k _ => if_neg fun hk => hn ⟨k, hk.1⟩] at h
  exact Nat.lt_irrefl 0 h

theorem owedAtStart_pos {c : Dev nD} {g : GSem nD τ sig} {u : Unit} (h : 0 < owedAtStart c g u) :
    (∃ k, g = cell (across c) (.got k)) ∨ g = cell (across c) .bar := by
  by_contra hn
  rw [not_or] at hn
  unfold owedAtStart at h
  rw [Pi.add_apply, Finsupp.add_apply, tallyAt_apply, if_neg (fun h' => hn.2 h'.1), Nat.add_zero] at h
  exact hn.1 (pending_pos h)

def L (g : GSem nD τ sig) : Finset Unit := if g.1.2 = .tc then {()} else ∅

/-- Barriers come before arrivals, and everything else before both. -/
def level : Option Role → ℕ
  | some .bar => 1
  | some (.got _) => 2
  | _ => 0
def lv (g : GSem nD τ sig) (_ : Unit) : ℕ := level (roleOf g.2)

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (r : Role) (u : Unit) : lv (cell c r) u = level (some r) := by
  unfold lv; rw [roleOf_sem]

/-- The staging semaphores may be waited for at the start and at the end. -/
theorem mayWait_stage (c : Dev nD) (q : DmaSem sig) (hq : roleOf (.dma q) = none) (O : CellTallies nD τ sig Unit)
    (hO : O = owedAtStart c ∨ O = 0) : (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by rcases owedAtStart_pos hg with ⟨k, rfl⟩ | rfl <;> exact Finset.mem_singleton_self _)
      (fun p hp => by rw [Finset.mem_singleton.mp hp]; dsimp only [lv]; rw [hq]; exact Nat.le_refl 0)
      (fun g u hg => by
        rcases owedAtStart_pos hg with ⟨k, rfl⟩ | rfl
        · rw [lv_cell]; exact Nat.two_pos
        · rw [lv_cell]; exact Nat.one_pos)
  · rw [MayWait_zero]; iintro -; iempintro

/-- The barrier may be waited for while the arrivals are owed. -/
theorem mayWait_bar (c : Dev nD) (n : ℕ) :
    (levAts L lv : sProp 𝕄) ⊢ MayWait (c : Thread nD τ) (.reg barS) () (pending c n) :=
  MayOwe.of_cut (L := L) (lev := lv) 1
    (fun p hp => by rw [Finset.mem_singleton.mp hp, L_tc]; exact Finset.mem_singleton_self _)
    (fun g u hg => by obtain ⟨k, rfl⟩ := pending_pos hg; exact Finset.mem_singleton_self _)
    (fun p hp => by rw [Finset.mem_singleton.mp hp]; exact (lv_cell c .bar ()).le)
    (fun g u hg => by obtain ⟨k, rfl⟩ := pending_pos hg; rw [lv_cell]; exact Nat.one_lt_two)

end Cert.KernelIdeal.Exchange

end
-- ==== Proof.KernelIdeal.Steps.lean ====
/-
The moves the kernel's body is made of, each once and for any chunk: reading and writing a chunk, filling a chunk of
the send buffer, sending it across, waiting for a departure or an arrival, and adding an arrival into the result.

The body tests its side of `x` twice for every chunk it fills or adds, and does the work under the one test that
holds. `filled c k n` and `added c k n` say what the chunk holds once the tests for the sides below `n` are behind.
-/
module

public import proofs.«01_k».proof.Proof.KernelIdeal.Schedule

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a piece of the body on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Chunks -/

section Chunks

variable (c : Dev nD) {e : EltTy} (M : Memref sig .tc .vmem S512x512 e) (k : Fin 4)

/-- A chunk is read at what it holds. -/
theorem load_chunk {α : Type} {Q : α → sProp 𝕄} {off : Fin 2 → Nat} {inb} (ho : off = ![128 * k.val, 0]) {hl}
    {next : (S128x512.Idx → Elt F e) → Prog (TpuEff nD τ sig (Elt F) Λ₀ .tc) α} (X : S128x512.Idx → Elt F e) :
    holds c M k X ⊢ iprop((holds c M k X -∗ run c (next X) Q)
      -∗ run c (.op (.load M (Rect.unit (s := S512x512) off S128x512.size inb).toLoadRect hl) next) Q) := by
  subst ho
  unfold holds owns
  iintro ⟨%f, %hf, H⟩ Hk
  iapply (wp_load_rect 𝒱₀ (c : Thread nD τ) none Set.univ (m := M) (r := chunk k) (S := (part M k).view.set) subset_rfl) $$ H
  iintro H
  rw [show (M.access (chunk k)).read (Elt F) f = X from hf]
  iapply Hk
  iexists f; isplitr; · ipureintro; exact hf
  iexact H

/-- A chunk written whole holds what was written. -/
theorem store_chunk {α : Type} {Q : α → sProp 𝕄} {off : Fin 2 → Nat} {inb} (ho : off = ![128 * k.val, 0]) {hx hm}
    {next : PUnit → Prog (TpuEff nD τ sig (Elt F) Λ₀ .tc) α} (X w : S128x512.Idx → Elt F e) :
    holds c M k X ⊢ iprop((holds c M k w -∗ run c (next ⟨⟩) Q)
      -∗ run c (.op (.store M (Rect.unit (s := S512x512) off S128x512.size inb) w Finset.univ hx hm) next) Q) := by
  subst ho
  unfold holds owns
  iintro ⟨%f, -, H⟩ Hk
  iapply (wp_store 𝒱₀ (c : Thread nD τ) none Set.univ (m := M) (r := chunk k) (Mk := Finset.univ) (S := (part M k).view.set) subset_rfl) $$ H
  iintro H
  iapply Hk
  iexists _; isplitr
  swap; · iexact H
  ipureintro
  exact View.read_write_univ (v := (part M k).view) f w

end Chunks

/-! ## The argument -/

/-- Device `c`'s staged argument. -/
def argHeld (c : Dev nD) : sProp 𝕄 := ((c : Thread nD τ).loc cc0_stg0_0) ↦{fullShare} arg m c

theorem load_arg (c : Dev nD) (k : Fin 4) (b : Fin 2) {off : Fin 3 → Nat} {inb} (ho : off = ![0, 128 * k.val, 512 * b.val]) {hl}
    {α : Type} {Q : α → sProp 𝕄} {next : (S1x128x512.Idx → Elt F .bf16) → Prog (TpuEff nD τ sig (Elt F) Λ₀ .tc) α} :
    argHeld m c ⊢ iprop((argHeld m c -∗ run c (next (argPart m c k b)) Q)
      -∗ run c (.op (.load xM (Rect.unit (s := S1x512x1024) off S1x128x512.size inb).toLoadRect hl) next) Q) := by
  subst ho
  unfold argHeld
  exact wp_load 𝒱₀ (c : Thread nD τ) none Set.univ (m := xM) (r := (block k b).toLoadRect) (Finset.subset_univ _)

/-! ## Filling a chunk, and adding one -/

/-- A chunk of the send buffer once the tests for the sides below `n` are behind; -/
def filled (c : Dev nD) (k : Fin 4) (n : ℕ) : sProp 𝕄 :=
  if (side c).val < n then holds c sM k (sent m c k) else free c sM k
/-- a chunk of the result. -/
def added (c : Dev nD) (k : Fin 4) (n : ℕ) : sProp 𝕄 :=
  if (side c).val < n then holds c oM k (kept m c k) else free c oM k

theorem filled_start (c : Dev nD) (k : Fin 4) : filled m c k 0 = free c sM k := if_neg (Nat.not_lt_zero _)
theorem filled_end (c : Dev nD) (k : Fin 4) : filled m c k 2 = holds c sM k (sent m c k) := if_pos (side c).isLt
theorem added_start (c : Dev nD) (k : Fin 4) : added m c k 0 = free c oM k := if_neg (Nat.not_lt_zero _)
theorem added_end (c : Dev nD) (k : Fin 4) : added m c k 2 = holds c oM k (kept m c k) := if_pos (side c).isLt

/-- On another side nothing changes. -/
theorem filled_skip (c : Dev nD) (k : Fin 4) (b : Fin 2) (h : ¬ side c = b) : filled m c k b.val = filled m c k (b.val + 1) := by
  have : (side c).val ≠ b.val := Fin.val_ne_of_ne h
  unfold filled; exact if_congr (by omega) rfl rfl
theorem added_skip (c : Dev nD) (k : Fin 4) (b : Fin 2) (h : ¬ side c = b) : added m c k b.val = added m c k (b.val + 1) := by
  have : (side c).val ≠ b.val := Fin.val_ne_of_ne h
  unfold added; exact if_congr (by omega) rfl rfl

section Tests

variable (c : Dev nD) (k : Fin 4) (b : Fin 2) {T : Prop} [Decidable T]

/-- The test for side `b` in front of a chunk's filling: on that side the columns the other side keeps are copied. -/
theorem fill {α : Type} {Q : α → sProp 𝕄} {rest : Prog (TpuEff nD τ sig (Elt F) Λ₀ .tc) α}
    (hT : T ↔ side c = b) {offx : Fin 3 → Nat} {inbx} (hx : offx = ![0, 128 * k.val, 512 * (flip b).val])
    {off : Fin 2 → Nat} {inb} (ho : off = ![128 * k.val, 0]) {hl hl' hs hm} :
    iprop(argHeld m c ∗ filled m c k b.val) ⊢ iprop(((argHeld m c ∗ filled m c k (b.val + 1)) -∗ run c rest Q)
      -∗ run c (if _ : T then
          .op (.load xM (Rect.unit (s := S1x512x1024) offx S1x128x512.size inbx).toLoadRect hl) fun v =>
          .op (.load sM (Rect.unit (s := S512x512) off S128x512.size inb).toLoadRect hl') fun _ =>
          .op (.store sM (Rect.unit (s := S512x512) off S128x512.size inb) (k0_pay2 v) Finset.univ hs hm) fun _ => rest
        else rest) Q) := by
  by_cases h : side c = b
  · rw [dif_pos (hT.mpr h)]
    unfold filled free
    rw [if_neg (by rw [h]; exact Nat.lt_irrefl _), if_pos (by rw [h]; exact Nat.lt_succ_self _)]
    iintro ⟨Hx, ⟨%X, Hs⟩⟩ Hk
    iapply (load_arg m c k (flip b) hx) $$ Hx; iintro Hx
    iapply (load_chunk c sM k ho X) $$ Hs; iintro Hs
    iapply (store_chunk c sM k ho X) $$ Hs; iintro Hs
    iapply Hk
    unfold sent; rw [h]
    iframe Hx Hs
  · rw [dif_neg (fun t => h (hT.mp t)), filled_skip m c k b h]
    iintro H Hk
    iapply Hk; iexact H

/-- The test for side `b` in front of an arrival's use: on that side the device's own columns and the arrival are
    added into the result. -/
theorem add {α : Type} {Q : α → sProp 𝕄} {rest : Prog (TpuEff nD τ sig (Elt F) Λ₀ .tc) α}
    (hT : T ↔ side c = b) {offx : Fin 3 → Nat} {inbx} (hx : offx = ![0, 128 * k.val, 512 * b.val])
    {off : Fin 2 → Nat} {inb} (ho : off = ![128 * k.val, 0]) {hl hl' hl'' hs hm} :
    iprop(argHeld m c ∗ holds c rM k (sent m (across c) k) ∗ added m c k b.val)
      ⊢ iprop(((argHeld m c ∗ holds c rM k (sent m (across c) k) ∗ added m c k (b.val + 1)) -∗ run c rest Q)
      -∗ run c (if _ : T then
          .op (.load xM (Rect.unit (s := S1x512x1024) offx S1x128x512.size inbx).toLoadRect hl) fun v =>
          .op (.load rM (Rect.unit (s := S512x512) off S128x512.size inb).toLoadRect hl') fun w =>
          .op (.load oM (Rect.unit (s := S512x512) off S128x512.size inb).toLoadRect hl'') fun _ =>
          .op (.store oM (Rect.unit (s := S512x512) off S128x512.size inb) (k0_pay1 v w) Finset.univ hs hm) fun _ => rest
        else rest) Q) := by
  by_cases h : side c = b
  · rw [dif_pos (hT.mpr h)]
    unfold added free
    rw [if_neg (by rw [h]; exact Nat.lt_irrefl _), if_pos (by rw [h]; exact Nat.lt_succ_self _)]
    iintro ⟨Hx, Hr, ⟨%X, Ho⟩⟩ Hk
    iapply (load_arg m c k b hx) $$ Hx; iintro Hx
    iapply (load_chunk c rM k ho _) $$ Hr; iintro Hr
    iapply (load_chunk c oM k ho X) $$ Ho; iintro Ho
    iapply (store_chunk c oM k ho X) $$ Ho; iintro Ho
    iapply Hk
    unfold kept; rw [h]
    iframe Hx Hr Ho
  · rw [dif_neg (fun t => h (hT.mp t)), added_skip m c k b h]
    iintro H Hk
    iapply Hk; iexact H

end Tests

end Cert.KernelIdeal.Exchange

end
-- ==== Proof.KernelIdeal.Transfers.lean ====
/-
The moves that touch another device: the signal to the device across, the wait for its signal, a chunk sent, and the
wait for a departure or an arrival, each once and for any chunk.
-/
module

public import proofs.«01_k».proof.Proof.KernelIdeal.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ)

/-! ## What every device knows of every cell -/

abbrev at' (p : Dev nD × Role) : GSem nD τ sig := cell p.1 p.2

/-- Every cell's invariant, under the names `K`, and that its one round is open. -/
def known : sProp 𝕄 :=
  iprop((bigSep Finset.univ fun p : Dev nD × Role => cellInv EX (Rd m) (K p) (at' p))
    ∗ bigSep Finset.univ fun p : Dev nD × Role => reached EX (at' p) 0)

instance known_persistent : BI.Persistent (known m K) := by unfold known; infer_instance

theorem known_cell (c : Dev nD) (r : Role) :
    known m K ⊢ iprop(cellInv EX (Rd m) (K (c, r)) (cell c r) ∗ reached EX (cell c r) 0) := by
  unfold known
  exact BI.sep_mono (bigSep_elim (Finset.mem_univ (c, r))) (bigSep_elim (Finset.mem_univ (c, r)))

/-- What device `c` owes, whatever it has waited for. -/
def owing (c : Dev nD) (O : CellTallies nD τ sig Unit) : sProp 𝕄 := iprop(∃ W, owes (c : Thread nD τ) O W)

/-! ## A chunk sent -/

/-- What sending chunk `k` takes besides the chunk: the chunk across, free, and the right to contribute to the
    departure's cell and to the arrival's. -/
def postage (c : Dev nD) (k : Fin 4) : sProp 𝕄 :=
  iprop(dutyTok EX (cell c (.sent k)) 0 () ∗ dutyTok EX (cell (across c) (.got k)) 0 ())

theorem send (c n : Dev nD) (hn : n = across c) (k : Fin 4) {off off' : Fin 2 → Nat} {inb inb'}
    (ho : off = ![128 * k.val, 0]) (ho' : off' = ![128 * k.val, 0]) {s s' : DmaSem sig} (hs : s = sentS k) (hs' : s' = gotS k)
    {hr hr' hsc hsrc hdst hsem} {α : Type} {Q : α → sProp 𝕄} {next : PUnit → Prog (TpuEff nD τ sig (Elt F) Λ₀ .tc) α} :
    iprop(known m K ∗ holds c sM k (sent m c k) ∗ free (across c) rM k ∗ postage c k ∗ owing c (pending c k.val))
      ⊢ iprop(((cred (tallyAt (cell c (.sent k)) () N) ∗ owing c (pending c (k.val + 1))) -∗ run c (next ⟨⟩) Q)
        -∗ run c (.op (.enqueueDma (sM.slice (Rect.unit (s := S512x512) off S128x512.size inb) hr)
              (.remote (Dev.tc n : Thread nD τ) (rM.slice (Rect.unit (s := S512x512) off' S128x512.size inb') hr') (.dma s) hsc)
              (.dma s') hsrc hdst hsem) next) Q) := by
  subst hn ho ho' hs hs'
  unfold holds free holds owns postage owing
  iintro ⟨#Hkn, ⟨%fs, %hfs, Hs⟩, ⟨%X, %fd, -, Hd⟩, ⟨HtS, HtG⟩, ⟨%W, HO⟩⟩ Hk
  ihave #HS := (known_cell m K c (.sent k)) $$ Hkn
  ihave #HG := (known_cell m K (across c) (.got k)) $$ Hkn
  icases HS with ⟨HiS, HrS⟩
  icases HG with ⟨HiG, HrG⟩
  iapply (Rounds.wp_send_pointsTo 𝒱₀ EX (Rd m) (c : Thread nD τ) none (κ₁ := K (c, .sent k)) (κ₂ := K (across c, .got k))
      (c' := (across c : Thread nD τ)) (src := part sM k) (dst := part rM k) (sS := sem (.sent k)) (sem := sem (.got k))
      (r₁ := 0) (r₂ := 0) (d₁ := ()) (d₂ := ()) (fs := fs) (fd := fd)
      (mem_duties m c (.sent k)) (mem_duties m (across c) (.got k)) () () N rfl (amount_at m c (.sent k) ())
      (amount_at m (across c) (.got k) ()) (pending c (k.val + 1)) (pending_step c k) (W := W)
      (by rw [payload_at]; show _ ⊢ free c sM k; unfold free holds; iintro H; iexists _; iapply (owns_intro (c : Thread nD τ) (part sM k) fullShare fs); iexact H)
      (by
        rw [payload_at]
        show _ ⊢ holds (across c) rM k (sent m (across (across c)) k)
        rw [across_across, ← hfs]
        unfold holds owns
        iintro H; iexists _; isplitr
        swap; · iexact H
        ipureintro; exact View.read_write_univ (v := (part rM k).view) _ _)) $$ [Hs Hd HO HtS HtG]
  · iframe HiS HiG Hs Hd HO HtS HrS HtG HrG
  iintro ⟨Hc, HO⟩
  iapply Hk
  iframe Hc
  iexists W; iexact HO

/-! ## Waiting -/

/-- A device waits once for a cell of its own: it gets what the contribution hands over, and the cell is done with, its
    counter at zero. -/
theorem await (c : Dev nD) (r : Role) {w : TpuEff nD τ sig (Elt F) Λ₀ .tc PUnit} {s : SemLoc sig} (hs : s = sem r) {n : ℕ}
    (hn : n = credit r)
    (hw : ∀ Ψ : PUnit → sProp 𝕄, wpE (defs₀ (F := F)) 𝒱₀ (c : Thread nD τ) none Set.univ w Ψ = waitSpec (c : Thread nD τ) Set.univ s n Ψ)
    (O : CellTallies nD τ sig Unit) (hmay : (levAts L lv : sProp 𝕄) ⊢ MayWait (c : Thread nD τ) (sem r) () O)
    {α : Type} {Q : α → sProp 𝕄} {next : PUnit → Prog (TpuEff nD τ sig (Elt F) Λ₀ .tc) α} :
    iprop(known m K ∗ levAts L lv ∗ cred (tallyAt (cell c r) () (credit r)) ∗ owing c O ∗ atPos EX (cell c r) 0 ∅ 0)
      ⊢ iprop(((owing c O ∗ semVal (cell c r) 0 ∗ pay m c r) -∗ run c (next ⟨⟩) Q) -∗ run c (.op w next) Q) := by
  subst hs hn
  unfold owing
  iintro ⟨#Hkn, #Hlev, Hc, ⟨%W, HO⟩, Hat⟩ Hk
  ihave #Hkr := (known_cell m K c r) $$ Hkn
  icases Hkr with ⟨Hi, -⟩
  iapply (Rounds.wp_wait_rest_token 𝒱₀ EX (Rd m) (c : Thread nD τ) none (κ := K (c, r)) hw (Set.mem_univ _) () (O := O) (W := W)
      (R := 0) (m := 0) (T := ∅) (by rw [Nat.zero_add, expect_at])) $$ [Hc HO Hat]
  · iframe Hi Hc HO Hat
    iapply hmay; iexact Hlev
  iintro ⟨HO, Hat, -, Hpay⟩
  ihave Hp := (Entails.of_eq (rest_at m c r)) $$ Hpay
  imod (Rounds.cell_close EX (Rd m) (Set.mem_univ (K (c, r))) (fun h => h) (R := 0 + 1) (duties_later m (cell c r))) $$ [Hat] with Hz
  · iframe Hi Hat
  iapply Hk
  iframe Hz Hp
  iexists _; iexact HO

/-- Waiting for a chunk's departure or arrival, with nothing owed. -/
theorem await_chunk (c : Dev nD) (r : Role) (hcr : credit r = N) {s : DmaSem sig} (hs : SemLoc.dma s = sem r) {sp sp' : Space}
    {sh sh' : Shape} {e e' : EltTy} {src : Memref sig .tc sp sh e} {dst : Memref sig .tc sp' sh' e'} (hN : dst.view.dmaCredit = N) {h₁ h₂}
    {α : Type} {Q : α → sProp 𝕄} {next : PUnit → Prog (TpuEff nD τ sig (Elt F) Λ₀ .tc) α} :
    iprop(known m K ∗ levAts L lv ∗ cred (tallyAt (cell c r) () N) ∗ owing c (pending c 4) ∗ atPos EX (cell c r) 0 ∅ 0)
      ⊢ iprop(((owing c (pending c 4) ∗ semVal (cell c r) 0 ∗ pay m c r) -∗ run c (next ⟨⟩) Q)
        -∗ run c (.op (.waitDma2 s src dst h₁ h₂) next) Q) := by
  have h := await m K c r hs (hN.trans hcr.symm) (wpE_waitDma2_eq 𝒱₀ (c : Thread nD τ) none Set.univ (sem := s) (src := src) (dst := dst) (hsrc := h₁) (hdst := h₂))
    (pending c 4) (by rw [pending_end, MayWait_zero]; iintro -; iempintro) (Q := Q) (next := next)
  rwa [hcr] at h

/-! ## The handshake -/

/-- The signal across: this device's receive buffer may be written. -/
theorem signal (c n : Dev nD) (hn : n = across c) {α : Type} {Q : α → sProp 𝕄} {next : PUnit → Prog (TpuEff nD τ sig (Elt F) Λ₀ .tc) α} :
    iprop(known m K ∗ (each fun k => free (F := F) c rM k) ∗ dutyTok EX (cell (across c) .bar) 0 () ∗ owing c (owedAtStart c))
      ⊢ iprop((owing c (pending c 0) -∗ run c (next ⟨⟩) Q)
        -∗ run c (.op (.semSignal (n : Thread nD τ) barS 1) next) Q) := by
  subst hn
  unfold owing
  iintro ⟨#Hkn, Hr, Ht, ⟨%W, HO⟩⟩ Hk
  ihave #HB := (known_cell m K (across c) .bar) $$ Hkn
  icases HB with ⟨Hi, Hre⟩
  iapply (Rounds.wp_signal 𝒱₀ EX (Rd m) (c : Thread nD τ) none (dst := (across c : Thread nD τ)) (κ := K (across c, .bar))
      (sem := barS) (r := 0) (d := ()) (k' := 1) (mem_duties m (across c) .bar) (amount_at m (across c) .bar ()) () (pending c 0) rfl (W := W)) $$ [HO Ht Hr]
  · iframe Hi HO Ht Hre
    rw [show (Rd m).payload ((across c : Thread nD τ), .reg barS) 0 () = pay m (across c) .bar from payload_at m (across c) .bar ()]
    unfold pay
    rw [across_across]
    iexact Hr
  iintro HO
  iapply Hk
  iexists W; iexact HO

end Cert.KernelIdeal.Exchange

end
-- ==== Proof.KernelIdeal.Parts.lean ====
/-
The five pieces of the kernel's body, one after another, each from what it needs to what it leaves.
-/
module

public import proofs.«01_k».proof.Proof.KernelIdeal.Transfers

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ)

/-- Device `c`'s place at one of its own cells. -/
abbrev place (c : Dev nD) (r : Role) : sProp 𝕄 := atPos EX (cell c r) 0 ∅ 0

/-- The handshake, and chunk 0 filled. -/
theorem part1 (c : Dev nD) (Q : (Σ' (_ : Dev nD) (_ : BitVec 32) (_ : BitVec 32) (_ : BitVec 32), BitVec 32) → sProp 𝕄) :
    iprop(known m K ∗ levAts L lv ∗ place c .bar ∗ dutyTok EX (cell (across c) .bar) 0 () ∗ cred (tallyAt (cell c .bar) () 1)
        ∗ owing c (owedAtStart c) ∗ argHeld m c ∗ free c sM 0 ∗ (each fun k => free (F := F) c rM k))
      ⊢ iprop((∀ a, (⌜∃ v5 v8 v9, a = ⟨c, sideWord c, v5, v8, v9⟩⌝ ∗ semVal (cell c .bar) 0 ∗ owing c (pending c 0) ∗ argHeld m c ∗ holds c sM 0 (sent m c 0)
          ∗ (each fun k => free (F := F) (across c) rM k)) -∗ Q a)
      -∗ run c (k0_part1 xM (Memref.isWhole_whole _) oM (Memref.isWhole_whole _) sM (Memref.isWhole_whole _) rM (Memref.isWhole_whole _)
            cc0_scratch2 cc0_scratch3 ) Q) := by
  rw [k0_part1_eq_skeleton]; unfold k0_part1_skel
  simp only [semSignalWord, semWaitWord, Prog.lift, Prog.bind_op, Prog.bind_ret, Prog.pure_eq_ret, wp_deviceId]
  iintro ⟨#Hk, #Hlev, Pb, Tb, Cb, HO, Hx, S0, Hr⟩ HQ
  iapply (signal m K c _ (target_signal c)) $$ [Hr Tb HO]
  · iframe Hk Hr Tb HO
  iintro HO
  iapply (await m K c .bar rfl rfl (wpE_semWait_eq 𝒱₀ (c : Thread nD τ) none Set.univ) (pending c 0) (mayWait_bar c 0)) $$ [Cb HO Pb]
  · iframe Hk Hlev HO Pb
    iexact Cb
  iintro ⟨HO, Zb, Hr⟩
  ihave S0 := (Entails.of_eq (filled_start m c 0).symm) $$ S0
  iapply (fill m c 0 0 (on_side_0 c) rfl rfl) $$ [Hx S0]
  · iframe Hx
    iexact S0
  iintro ⟨Hx, S0⟩
  iapply (fill m c 0 1 (on_side_1 c) rfl rfl) $$ [Hx S0]
  · iframe Hx
    iexact S0
  iintro ⟨Hx, S0⟩
  ihave S0 := (Entails.of_eq (filled_end m c 0) : filled m c 0 ((1 : Fin 2).val + 1) ⊢ _) $$ S0
  unfold run; rw [wp_ret]; imodintro
  iapply HQ
  isplitr; · ipureintro; exact ⟨_, _, _, rfl⟩
  iframe Zb HO Hx S0
  ihave Hr := (Entails.of_eq (pay_bar m c)) $$ Hr
  iexact Hr

/-- Chunk 0 sent, chunk 1 filled and sent, chunk 2 filled. -/
theorem part2 (c : Dev nD) (v5 v8 v9 : BitVec 32) (Q : BitVec 32 → sProp 𝕄) :
    iprop(known m K ∗ postage c 0 ∗ postage c 1 ∗ owing c (pending c 0) ∗ argHeld m c ∗ holds c sM 0 (sent m c 0) ∗ free c sM 1 ∗ free c sM 2
        ∗ free (across c) rM 0 ∗ free (across c) rM 1)
      ⊢ iprop((∀ a, (cred (tallyAt (cell c (.sent 0)) () N) ∗ cred (tallyAt (cell c (.sent 1)) () N) ∗ owing c (pending c 2) ∗ argHeld m c
          ∗ holds c sM 2 (sent m c 2)) -∗ Q a)
      -∗ run c (k0_part2 xM (Memref.isWhole_whole _) oM (Memref.isWhole_whole _) sM (Memref.isWhole_whole _) rM (Memref.isWhole_whole _)
            cc0_scratch2 cc0_scratch3 c (sideWord c) v5 v8 v9) Q) := by
  rw [k0_part2_eq_skeleton]; unfold k0_part2_skel
  simp only [Prog.lift, Prog.bind_op, Prog.bind_ret, Prog.pure_eq_ret]
  iintro ⟨#Hk, T0, T1, HO, Hx, S0, S1, S2, D0, D1⟩ HQ
  iapply (send m K c _ (target_0 c) 0 rfl rfl rfl rfl) $$ [S0 D0 T0 HO]
  · iframe Hk S0 D0 T0
    iexact HO
  iintro ⟨Cs0, HO⟩
  ihave S1 := (Entails.of_eq (filled_start m c 1).symm) $$ S1
  iapply (fill m c 1 0 (on_side_0 c) rfl rfl) $$ [Hx S1]
  · iframe Hx
    iexact S1
  iintro ⟨Hx, S1⟩
  iapply (fill m c 1 1 (on_side_1 c) rfl rfl) $$ [Hx S1]
  · iframe Hx
    iexact S1
  iintro ⟨Hx, S1⟩
  ihave S1 := (Entails.of_eq (filled_end m c 1) : filled m c 1 ((1 : Fin 2).val + 1) ⊢ _) $$ S1
  iapply (send m K c _ (target_1 c) 1 rfl rfl rfl rfl) $$ [S1 D1 T1 HO]
  · iframe Hk S1 D1 T1
    iexact HO
  iintro ⟨Cs1, HO⟩
  ihave S2 := (Entails.of_eq (filled_start m c 2).symm) $$ S2
  iapply (fill m c 2 0 (on_side_0 c) rfl rfl) $$ [Hx S2]
  · iframe Hx
    iexact S2
  iintro ⟨Hx, S2⟩
  iapply (fill m c 2 1 (on_side_1 c) rfl rfl) $$ [Hx S2]
  · iframe Hx
    iexact S2
  iintro ⟨Hx, S2⟩
  ihave S2 := (Entails.of_eq (filled_end m c 2) : filled m c 2 ((1 : Fin 2).val + 1) ⊢ _) $$ S2
  unfold run; rw [wp_ret]; imodintro
  iapply HQ
  iframe Cs0 Cs1 HO Hx S2

/-- Chunk 2 sent, chunk 3 filled and sent. -/
theorem part3 (c : Dev nD) (v5 v8 v9 : BitVec 32) (v59 : BitVec 32) (Q : BitVec 32 → sProp 𝕄) :
    iprop(known m K ∗ postage c 2 ∗ postage c 3 ∗ owing c (pending c 2) ∗ argHeld m c ∗ holds c sM 2 (sent m c 2) ∗ free c sM 3
        ∗ free (across c) rM 2 ∗ free (across c) rM 3)
      ⊢ iprop((∀ a, (cred (tallyAt (cell c (.sent 2)) () N) ∗ cred (tallyAt (cell c (.sent 3)) () N) ∗ owing c (pending c 4) ∗ argHeld m c) -∗ Q a)
      -∗ run c (k0_part3 xM (Memref.isWhole_whole _) oM (Memref.isWhole_whole _) sM (Memref.isWhole_whole _) rM (Memref.isWhole_whole _)
            cc0_scratch2 cc0_scratch3 c (sideWord c) v5 v8 v9 v59) Q) := by
  rw [k0_part3_eq_skeleton]; unfold k0_part3_skel
  simp only [Prog.lift, Prog.bind_op, Prog.bind_ret, Prog.pure_eq_ret]
  iintro ⟨#Hk, T2, T3, HO, Hx, S2, S3, D2, D3⟩ HQ
  iapply (send m K c _ (target_2 c) 2 rfl rfl rfl rfl) $$ [S2 D2 T2 HO]
  · iframe Hk S2 D2 T2
    iexact HO
  iintro ⟨Cs2, HO⟩
  ihave S3 := (Entails.of_eq (filled_start m c 3).symm) $$ S3
  iapply (fill m c 3 0 (on_side_0 c) rfl rfl) $$ [Hx S3]
  · iframe Hx
    iexact S3
  iintro ⟨Hx, S3⟩
  iapply (fill m c 3 1 (on_side_1 c) rfl rfl) $$ [Hx S3]
  · iframe Hx
    iexact S3
  iintro ⟨Hx, S3⟩
  ihave S3 := (Entails.of_eq (filled_end m c 3) : filled m c 3 ((1 : Fin 2).val + 1) ⊢ _) $$ S3
  iapply (send m K c _ (target_3 c) 3 rfl rfl rfl rfl) $$ [S3 D3 T3 HO]
  · iframe Hk S3 D3 T3
    iexact HO
  iintro ⟨Cs3, HO⟩
  unfold run; rw [wp_ret]; imodintro
  iapply HQ
  iframe Cs2 Cs3 HO Hx

/-- Chunks 0 and 1 arrive and are added. -/
theorem part4 (c : Dev nD) (v5 v8 v9 : BitVec 32) (v90 : BitVec 32) (Q : PUnit → sProp 𝕄) :
    iprop(known m K ∗ levAts L lv ∗ (cred (tallyAt (cell c (.got 0)) () N) ∗ place c (.got 0)) ∗ (cred (tallyAt (cell c (.got 1)) () N) ∗ place c (.got 1)) ∗ owing c (pending c 4) ∗ argHeld m c ∗ free c oM 0 ∗ free c oM 1)
      ⊢ iprop(((semVal (cell c (.got 0)) 0 ∗ semVal (cell c (.got 1)) 0 ∗ owing c (pending c 4) ∗ argHeld m c
          ∗ holds c rM 0 (sent m (across c) 0) ∗ holds c rM 1 (sent m (across c) 1) ∗ holds c oM 0 (kept m c 0) ∗ holds c oM 1 (kept m c 1)) -∗ Q ⟨⟩)
      -∗ run c (k0_part4 xM (Memref.isWhole_whole _) oM (Memref.isWhole_whole _) sM (Memref.isWhole_whole _) rM (Memref.isWhole_whole _)
            cc0_scratch2 cc0_scratch3 (sideWord c) v5 v8 v9 v90) Q) := by
  rw [k0_part4_eq_skeleton]; unfold k0_part4_skel
  simp only [Prog.lift, Prog.bind_op, Prog.bind_ret, Prog.pure_eq_ret]
  iintro ⟨#Hk, #Hlev, ⟨Cg0, Pg0⟩, ⟨Cg1, Pg1⟩, HO, Hx, O0, O1⟩ HQ
  iapply (await_chunk m K c (.got 0) rfl rfl (dst := part rM 0) (credit_part rM 0)) $$ [Cg0 HO Pg0]
  · iframe Hk Hlev Cg0 Pg0
    iexact HO
  iintro ⟨HO, Zg0, R0⟩
  ihave R0 := (Entails.of_eq (pay_got m c 0)) $$ R0
  ihave O0 := (Entails.of_eq (added_start m c 0).symm) $$ O0
  iapply (add m c 0 0 (on_side_0 c) rfl rfl) $$ [Hx R0 O0]
  · iframe Hx
    isplitl [R0]; · iexact R0
    iexact O0
  iintro ⟨Hx, R0, O0⟩
  iapply (add m c 0 1 (on_side_1 c) rfl rfl) $$ [Hx R0 O0]
  · iframe Hx
    isplitl [R0]; · iexact R0
    iexact O0
  iintro ⟨Hx, R0, O0⟩
  ihave O0 := (Entails.of_eq (added_end m c 0) : added m c 0 ((1 : Fin 2).val + 1) ⊢ _) $$ O0
  iapply (await_chunk m K c (.got 1) rfl rfl (dst := part rM 1) (credit_part rM 1)) $$ [Cg1 HO Pg1]
  · iframe Hk Hlev Cg1 Pg1
    iexact HO
  iintro ⟨HO, Zg1, R1⟩
  ihave R1 := (Entails.of_eq (pay_got m c 1)) $$ R1
  ihave O1 := (Entails.of_eq (added_start m c 1).symm) $$ O1
  iapply (add m c 1 0 (on_side_0 c) rfl rfl) $$ [Hx R1 O1]
  · iframe Hx
    isplitl [R1]; · iexact R1
    iexact O1
  iintro ⟨Hx, R1, O1⟩
  iapply (add m c 1 1 (on_side_1 c) rfl rfl) $$ [Hx R1 O1]
  · iframe Hx
    isplitl [R1]; · iexact R1
    iexact O1
  iintro ⟨Hx, R1, O1⟩
  ihave O1 := (Entails.of_eq (added_end m c 1) : added m c 1 ((1 : Fin 2).val + 1) ⊢ _) $$ O1
  unfold run; rw [wp_ret]; imodintro
  iapply HQ
  iframe Zg0 Zg1 HO Hx R0 R1 O0 O1

/-- Chunk 2 arrives and is added, chunk 3 arrives and is added on side 0. -/
theorem part5 (c : Dev nD) (v5 v8 v9 : BitVec 32) (Q : PUnit → sProp 𝕄) :
    iprop(known m K ∗ levAts L lv ∗ (cred (tallyAt (cell c (.got 2)) () N) ∗ place c (.got 2)) ∗ (cred (tallyAt (cell c (.got 3)) () N) ∗ place c (.got 3)) ∗ owing c (pending c 4) ∗ argHeld m c ∗ free c oM 2 ∗ free c oM 3)
      ⊢ iprop(((semVal (cell c (.got 2)) 0 ∗ semVal (cell c (.got 3)) 0 ∗ owing c (pending c 4) ∗ argHeld m c
          ∗ holds c rM 2 (sent m (across c) 2) ∗ holds c rM 3 (sent m (across c) 3) ∗ holds c oM 2 (kept m c 2) ∗ added m c 3 1) -∗ Q ⟨⟩)
      -∗ run c (k0_part5 xM (Memref.isWhole_whole _) oM (Memref.isWhole_whole _) sM (Memref.isWhole_whole _) rM (Memref.isWhole_whole _)
            cc0_scratch2 cc0_scratch3 (sideWord c) v5 v8 v9) Q) := by
  rw [k0_part5_eq_skeleton]; unfold k0_part5_skel
  simp only [Prog.lift, Prog.bind_op, Prog.bind_ret, Prog.pure_eq_ret]
  iintro ⟨#Hk, #Hlev, ⟨Cg2, Pg2⟩, ⟨Cg3, Pg3⟩, HO, Hx, O2, O3⟩ HQ
  iapply (await_chunk m K c (.got 2) rfl rfl (dst := part rM 2) (credit_part rM 2)) $$ [Cg2 HO Pg2]
  · iframe Hk Hlev Cg2 Pg2
    iexact HO
  iintro ⟨HO, Zg2, R2⟩
  ihave R2 := (Entails.of_eq (pay_got m c 2)) $$ R2
  ihave O2 := (Entails.of_eq (added_start m c 2).symm) $$ O2
  iapply (add m c 2 0 (on_side_0 c) rfl rfl) $$ [Hx R2 O2]
  · iframe Hx
    isplitl [R2]; · iexact R2
    iexact O2
  iintro ⟨Hx, R2, O2⟩
  iapply (add m c 2 1 (on_side_1 c) rfl rfl) $$ [Hx R2 O2]
  · iframe Hx
    isplitl [R2]; · iexact R2
    iexact O2
  iintro ⟨Hx, R2, O2⟩
  ihave O2 := (Entails.of_eq (added_end m c 2) : added m c 2 ((1 : Fin 2).val + 1) ⊢ _) $$ O2
  iapply (await_chunk m K c (.got 3) rfl rfl (dst := part rM 3) (credit_part rM 3)) $$ [Cg3 HO Pg3]
  · iframe Hk Hlev Cg3 Pg3
    iexact HO
  iintro ⟨HO, Zg3, R3⟩
  ihave R3 := (Entails.of_eq (pay_got m c 3)) $$ R3
  ihave O3 := (Entails.of_eq (added_start m c 3).symm) $$ O3
  iapply (add m c 3 0 (on_side_0 c) rfl rfl) $$ [Hx R3 O3]
  · iframe Hx
    isplitl [R3]; · iexact R3
    iexact O3
  iintro ⟨Hx, R3, O3⟩
  unfold run; rw [wp_ret]; imodintro
  iapply HQ
  iframe Zg2 Zg3 HO Hx R2 R3 O2
  iexact O3

end Cert.KernelIdeal.Exchange

end
-- ==== Proof.KernelIdeal.Body.lean ====
/-
The kernel's body on one device, from the signal across to the last departure's wait: it starts from the argument staged
and every other chunk of its buffers free, and ends with each chunk of the result at what it keeps there.
-/
module

public import proofs.«01_k».proof.Proof.KernelIdeal.Parts

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ)

/-- What device `c` brings to the exchange: its places, what it may contribute across, and that the device across will
    contribute to its own cells. -/
def tickets (c : Dev nD) : sProp 𝕄 :=
  iprop((place (F := F) c .bar ∗ (each fun k => place (F := F) c (.sent k)) ∗ (each fun k => place (F := F) c (.got k)))
    ∗ dutyTok EX (cell (across c) .bar) 0 () ∗ (each fun k => postage (F := F) c k)
    ∗ cred (tallyAt (cell c .bar) () 1) ∗ (each fun k => cred (tallyAt (cell c (.got k)) () N)))

/-- The exchange's counters, all back at zero. -/
def closed (c : Dev nD) : sProp 𝕄 :=
  iprop(semVal (cell c .bar) 0 ∗ (each fun k => semVal (cell c (.sent k)) 0) ∗ (each fun k => semVal (cell c (.got k)) 0))

/-- The body's start; -/
def before (c : Dev nD) : sProp 𝕄 :=
  iprop(known m K ∗ levAts L lv ∗ tickets (F := F) c ∗ owing (F := F) c (owedAtStart c) ∗ argHeld m c
    ∗ (each fun k => free (F := F) c sM k) ∗ (each fun k => free (F := F) c rM k) ∗ (each fun k => free (F := F) c oM k))

/-- its end. -/
def after (c : Dev nD) : sProp 𝕄 :=
  iprop(closed (F := F) c ∗ owing (F := F) c (pending c 4) ∗ argHeld m c
    ∗ (each fun k => free (F := F) c sM k) ∗ (each fun k => free (F := F) c rM k) ∗ (each fun k => holds c oM k (kept m c k)))

/-- The body, its parts one after another. -/
theorem body (c : Dev nD) (Q : PUnit → sProp 𝕄) :
    before m K c ⊢ iprop((after m c -∗ Q ⟨⟩)
      -∗ run c (cc0_body xM (Memref.isWhole_whole _) oM (Memref.isWhole_whole _) sM (Memref.isWhole_whole _) rM (Memref.isWhole_whole _)
            cc0_scratch2 cc0_scratch3) Q) := by
  rw [cc0_body_eq_skeleton]; unfold cc0_body_skel before tickets
  iintro ⟨#Hk, #Hlev, ⟨⟨Pb, ⟨Ps0, Ps1, Ps2, Ps3⟩, ⟨Pg0, Pg1, Pg2, Pg3⟩⟩, Tb, ⟨T0, T1, T2, T3⟩, Cb, ⟨Cg0, Cg1, Cg2, Cg3⟩⟩, HO, Hx,
    ⟨S0, S1, S2, S3⟩, Hr, ⟨O0, O1, O2, O3⟩⟩ HQ
  simp only [run, wp_bind]
  iapply (part1 m K c _) $$ [Pb Tb Cb HO Hx S0 Hr]
  · iframe Hk Hlev Pb Tb Cb HO Hx S0
    iexact Hr
  iintro %a ⟨%ha, Zb, HO, Hx, S0, ⟨D0, D1, D2, D3⟩⟩
  obtain ⟨v5, v8, v9, rfl⟩ := ha
  iapply (part2 m K c v5 v8 v9 _) $$ [T0 T1 HO Hx S0 S1 S2 D0 D1]
  · iframe Hk T0 T1 HO Hx S0 S1 S2 D0 D1
  iintro %v59 ⟨Cs0, Cs1, HO, Hx, S2⟩
  iapply (part3 m K c v5 v8 v9 v59 _) $$ [T2 T3 HO Hx S2 S3 D2 D3]
  · iframe Hk T2 T3 HO Hx S2 S3 D2 D3
  iintro %v90 ⟨Cs2, Cs3, HO, Hx⟩
  iapply (part4 m K c v5 v8 v9 v90 _) $$ [Cg0 Pg0 Cg1 Pg1 HO Hx O0 O1]
  · iframe Hk Hlev Cg0 Pg0 Cg1 Pg1 HO Hx O0 O1
  iintro ⟨Zg0, Zg1, HO, Hx, R0, R1, O0, O1⟩
  iapply (part5 m K c v5 v8 v9 _) $$ [Cg2 Pg2 Cg3 Pg3 HO Hx O2 O3]
  · iframe Hk Hlev Cg2 Pg2 Cg3 Pg3 HO Hx O2 O3
  iintro ⟨Zg2, Zg3, HO, Hx, R2, R3, O2, O3⟩
  simp only [Prog.lift, Prog.bind_op, Prog.bind_ret, Prog.pure_eq_ret]
  iapply (add m c 3 1 (on_side_1 c) rfl rfl) $$ [Hx R3 O3]
  · iframe Hx
    isplitl [R3]; · iexact R3
    iexact O3
  iintro ⟨Hx, R3, O3⟩
  ihave O3 := (Entails.of_eq (added_end m c 3) : added m c 3 ((1 : Fin 2).val + 1) ⊢ _) $$ O3
  iapply (await_chunk m K c (.sent 0) rfl rfl (dst := part sM 0) (credit_part sM 0)) $$ [Cs0 HO Ps0]
  · iframe Hk Hlev Cs0 HO Ps0
  iintro ⟨HO, Zs0, S0⟩
  iapply (await_chunk m K c (.sent 1) rfl rfl (dst := part sM 1) (credit_part sM 1)) $$ [Cs1 HO Ps1]
  · iframe Hk Hlev Cs1 HO Ps1
  iintro ⟨HO, Zs1, S1⟩
  iapply (await_chunk m K c (.sent 2) rfl rfl (dst := part sM 2) (credit_part sM 2)) $$ [Cs2 HO Ps2]
  · iframe Hk Hlev Cs2 HO Ps2
  iintro ⟨HO, Zs2, S2⟩
  iapply (await_chunk m K c (.sent 3) rfl rfl (dst := part sM 3) (credit_part sM 3)) $$ [Cs3 HO Ps3]
  · iframe Hk Hlev Cs3 HO Ps3
  iintro ⟨HO, Zs3, S3⟩
  unfold run; rw [wp_ret]; imodintro
  iapply HQ
  unfold after closed
  isplitl [Zb Zs0 Zs1 Zs2 Zs3 Zg0 Zg1 Zg2 Zg3]; · iframe Zb Zs0 Zs1 Zs2 Zs3 Zg0 Zg1 Zg2 Zg3
  iframe HO Hx
  isplitl [S0 S1 S2 S3]
  · isplitl [S0]; · iapply (Entails.of_eq (pay_sent m c 0)); iexact S0
    isplitl [S1]; · iapply (Entails.of_eq (pay_sent m c 1)); iexact S1
    isplitl [S2]; · iapply (Entails.of_eq (pay_sent m c 2)); iexact S2
    iapply (Entails.of_eq (pay_sent m c 3)); iexact S3
  isplitl [R0 R1 R2 R3]
  · isplitl [R0]; · iapply (free_intro c rM 0 _); iexact R0
    isplitl [R1]; · iapply (free_intro c rM 1 _); iexact R1
    isplitl [R2]; · iapply (free_intro c rM 2 _); iexact R2
    iapply (free_intro c rM 3 _); iexact R3
  iframe O0 O1 O2 O3

end Cert.KernelIdeal.Exchange

end
-- ==== Proof.KernelIdeal.Whole.lean ====
/-
A whole 512-row buffer taken apart into its four chunks and put together again.
-/
module

public import proofs.«01_k».proof.Proof.KernelIdeal.Schedule

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (c : Dev nD) {e : EltTy} (M : Memref sig .tc .vmem S512x512 e)

/-- A whole buffer is its chunks, each free to be written. -/
theorem apart (X : S512x512.Idx → Elt F e) :
    (owns (c : Thread nD τ) M fullShare X : sProp 𝕄) ⊢ each fun k => free (F := F) c M k :=
  (owns_rects (c : Thread nD τ) M fullShare chunk (fun _ _ => rfl) chunk_disjoint chunk_cover X).trans
    ((bigSep_mono fun k _ => free_intro c M k _).trans (Entails.of_eq (bigSep_each _)))

/-- Chunks holding `Y` are a whole buffer holding them one under another. -/
theorem together (Y : Fin 4 → S128x512.Idx → Elt F e) :
    (each fun k => holds c M k (Y k)) ⊢ (owns (c : Thread nD τ) M fullShare (stack Y) : sProp 𝕄) :=
  (Entails.of_eq (by
      rw [← bigSep_each fun k => holds (F := F) c M k (Y k)]
      exact bigSep_congr fun k _ => by unfold holds; rw [stack_chunk])).trans
    (owns_of_rects (c : Thread nD τ) M fullShare chunk (fun _ _ => rfl) chunk_disjoint chunk_cover (stack Y))

/-- Free chunks are a whole buffer holding something. -/
theorem together_free : (each fun k => free (F := F) c M k) ⊢ iprop(∃ X, (owns (c : Thread nD τ) M fullShare X : sProp 𝕄)) := by
  rw [← bigSep_each fun k => free (F := F) c M k]
  unfold free
  iintro H
  ihave H := (bigSep_exists_pi Finset.univ (fun (k : Fin 4) (X : S128x512.Idx → Elt F e) => holds (F := F) c M k X)) $$ H
  icases H with ⟨%Y, H⟩
  iexists (stack Y)
  iapply (together c M Y)
  iapply (Entails.of_eq (bigSep_each fun k => holds (F := F) c M k (Y k)))
  iexact H

end Cert.KernelIdeal.Exchange

end
-- ==== Proof.KernelIdeal.Point.lean ====
/-
The kernel's one grid point: what the launch hands the body there and takes back, and the body run between them.
-/
module

public import proofs.«01_k».proof.Proof.KernelIdeal.Body
public import proofs.«01_k».proof.Proof.KernelIdeal.Whole

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What device `c` starts the body with, its buffers apart. -/
def start (c : Dev nD) : sProp 𝕄 := iprop((∃ K, known m K) ∗ levAts L lv ∗ tickets (F := F) c)

/-- The scratch buffers, free. -/
def scratch (c : Dev nD) : sProp 𝕄 := iprop((each fun k => free (F := F) c sM k) ∗ (each fun k => free (F := F) c rM k))

/-- What goes with the pipeline: before its one point and after it. -/
def carried (c : Dev nD) : ℕ → sProp 𝕄
  | 0 => iprop(start m c ∗ scratch (F := F) c)
  | _ => iprop(closed (F := F) c ∗ scratch (F := F) c)

def dats (_ : Fin 1) (c : Dev nD) : Dat τ (Elt F) Unit ℕ UU ℕ cfg0 c where
  A w := m ((cfg0.win w).arr.view.loc (c : Thread nD τ))
  after w _ := match w with
    | ⟨0, _⟩ => arg m c
    | ⟨1, _⟩ => result m c
  Φ t := carried m c t.val
  q _ := fullShare
  owed t := match t with
    | ⟨0, _⟩ => owedAtStart c
    | ⟨_ + 1, _⟩ => 0

theorem point (t : Fin cfg0.N) : t = t0_0 := fin_N0 t

/-- The body's obligation. -/
theorem body_obligation (c : Dev nD) : BodyObligation (dats (F := F) m 0 c) (defs₀ (F := F)) 𝒱₀ () Set.univ := fun t => by
  rw [point t, bigSep_W0, bigSep_W0]
  show iprop((start m c ∗ scratch (F := F) c) ∗ (dats m 0 c).owesAt () t0_0.castSucc
      ∗ (∃ d, owns (c : Thread nD τ) xM fullShare ((dats m 0 c).before (0 : Fin 2) t0_0 d))
      ∗ (∃ d, owns (c : Thread nD τ) oM fullShare ((dats m 0 c).before (1 : Fin 2) t0_0 d)))
    ⊢ run c (cc0_body xM (Memref.isWhole_whole _) oM (Memref.isWhole_whole _) sM (Memref.isWhole_whole _) rM (Memref.isWhole_whole _)
        cc0_scratch2 cc0_scratch3) fun _ => iprop((closed (F := F) c ∗ scratch (F := F) c) ∗ (dats m 0 c).owesAt () t0_0.succ
      ∗ owns (c : Thread nD τ) xM fullShare (arg m c) ∗ owns (c : Thread nD τ) oM fullShare (result m c))
  unfold Dat.owesAt Pipeline.owesWithin start scratch
  iintro ⟨⟨⟨⟨%K, #Hk⟩, #Hlev, Ht⟩, Hs, Hr⟩, ⟨%W, -, HO⟩, ⟨%d, Hx⟩, ⟨%d', Ho⟩⟩
  have hx : (dats m 0 c).before (0 : Fin 2) t0_0 d = arg m c := by
    unfold Dat.before
    rw [if_pos (show (cfg0.win (0 : Fin 2)).fetch t0_0 = true from rfl)]
    rfl
  rw [hx]
  ihave Ho := (apart c oM _) $$ Ho
  ihave Hx := (Entails.of_eq (owns_whole (c : Thread nD τ) cc0_stg0_0 fullShare (arg m c))) $$ Hx
  iapply (body m K c _) $$ [Ht Hs Hr HO Hx Ho]
  · unfold before owing argHeld
    iframe Hk Hlev Ht
    isplitl [HO]; · iexists W; iexact HO
    iframe Hx Hs Hr Ho
  unfold after owing argHeld
  iintro ⟨Hz, ⟨%W', HO⟩, Hx, Hs, Hr, Ho⟩
  isplitl [Hz Hs Hr]; · iframe Hz Hs Hr
  isplitl [HO]
  · iexists W'
    isplitr; · ipureintro; exact fun _ _ => Or.inl trivial
    rw [pending_end]; iexact HO
  isplitl [Hx]
  · iapply (Entails.of_eq (owns_whole (c : Thread nD τ) cc0_stg0_0 fullShare (arg m c)).symm); iexact Hx
  · iapply (together c oM (kept m c)); iexact Ho

end Cert.KernelIdeal.Exchange

end
-- ==== Proof.KernelIdeal.Fund.lean ====
/-
What the launch deals out: for every device its places and the right to every contribution to its own cells, and then,
each contribution's right carried across to the device that makes it.
-/
module

public import proofs.«01_k».proof.Proof.KernelIdeal.Point

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Roles one by one -/

theorem regrouped (P Q R : sProp 𝕄) : iprop((P ∗ Q) ∗ R) = iprop(P ∗ Q ∗ R) :=
  BI.equiv_iff.mp ⟨BI.sep_assoc, BI.sep_assoc'⟩

theorem bigSep_roles (Φ : Role → sProp 𝕄) :
    bigSep Finset.univ Φ = iprop(Φ .bar ∗ (each fun k => Φ (.sent k)) ∗ (each fun k => Φ (.got k))) := by
  rw [bigSep_univ_eq_bigSepL roles (by decide) (by decide)]
  simp only [roles, bigSepL_cons_cons, bigSepL_singleton, each, regrouped]
  rfl

/-! ## The cells and the rights -/

theorem at'_injective : Function.Injective (at' : Dev nD × Role → GSem nD τ sig) := by
  rintro ⟨c, r⟩ ⟨c', r'⟩ h
  have hc : c = c' := congrArg (fun g : GSem nD τ sig => g.1.1) h
  have hr : r = r' := sem_injective (congrArg Prod.snd h)
  rw [hc, hr]

theorem cell_eq_iff {c c' : Dev nD} {r r' : Role} : cell c r = cell c' r' ↔ c = c' ∧ r = r' :=
  ⟨fun h => by have := at'_injective (a₁ := (c, r)) (a₂ := (c', r')) h; exact Prod.mk.inj this, fun ⟨h, h'⟩ => by rw [h, h']⟩

def allCells : Finset (GSem nD τ sig) := Finset.univ.map ⟨at', at'_injective⟩

def rightOf (p : Dev nD × Role) : GSem nD τ sig × ℕ × Unit := (at' p, 0, ())
theorem rightOf_injective : Function.Injective rightOf := fun p p' h => at'_injective (congrArg Prod.fst h)
def allRights : Finset (GSem nD τ sig × ℕ × Unit) := Finset.univ.map ⟨rightOf, rightOf_injective⟩

/-- The right to contribute to a cell. -/
abbrev right (c : Dev nD) (r : Role) : sProp 𝕄 := dutyTok EX (cell c r) 0 ()

/-- What device `c` is dealt first: its cells' opening states, its places there, and the rights to them. -/
def dealt (c : Dev nD) : sProp 𝕄 :=
  iprop((bigSep Finset.univ fun r => roundState EX (Rd m) (cell c r) 0)
    ∗ ((bigSep Finset.univ fun r => place (F := F) c r) ∗ bigSep Finset.univ fun r => reached EX (cell c r) 0)
    ∗ bigSep Finset.univ fun r => right (F := F) c r)

theorem fund_all : BI.own (EX (initOf allCells allRights)) ⊢ (|==> bigSep Finset.univ (dealt m) : sProp 𝕄) := by
  have hC (Φ : GSem nD τ sig → sProp 𝕄) :
      bigSep allCells Φ = bigSep Finset.univ fun c : Dev nD => bigSep Finset.univ fun r : Role => Φ (cell c r) := by
    unfold allCells; rw [bigSep_map, bigSep_univ_prod]; rfl
  have hR : bigSep allRights (fun x => (dutyTok EX x.1 x.2.1 x.2.2 : sProp 𝕄))
      = bigSep Finset.univ fun c : Dev nD => bigSep Finset.univ fun r : Role => right c r := by
    unfold allRights; rw [bigSep_map, bigSep_univ_prod]; rfl
  unfold dealt
  simp only [bigSep_sep']
  iintro H
  imod (Rounds.fund EX (Rd m) allCells allRights) $$ H with ⟨Hst, Hre, Hat, Hto⟩
  imodintro
  ihave Hst := (Entails.of_eq (hC fun g => roundState EX (Rd m) g 0)) $$ Hst
  ihave Hre := (Entails.of_eq (hC fun g => reached EX g 0)) $$ Hre
  ihave Hat := (Entails.of_eq (hC fun g => atPos EX g 0 ∅ 0)) $$ Hat
  ihave Hto := (Entails.of_eq hR) $$ Hto
  iframe Hst Hat Hre Hto

/-! ## The semaphores at the launch -/

/-- The kernel's own semaphores: the departures and the arrivals. -/
def own : Fin 8 → SemLoc sig := fun i => .dma ⟨2 + i.val, by have := i.isLt; show 2 + i.val < 10; omega⟩

theorem own_facts : Pipeline.OwnSemFacts cfg0.spec own := by decide

theorem own_eq (c : Dev nD) :
    (Pipeline.ownSems0 (Ix := Unit) (Name := ℕ) (U := UU) (Lvl := ℕ) (Val := Elt F) (τ := τ) own c : sProp 𝕄)
      = iprop((each fun k => semVal (cell c (.sent k)) 0) ∗ (each fun k => semVal (cell c (.got k)) 0)) := by
  rw [Pipeline.ownSems0_eq_of_list c own [0, 1, 2, 3, 4, 5, 6, 7] (by decide) (by decide)]
  simp only [each, regrouped]
  rfl

/-- The barrier is the one semaphore that outlives a launch. -/
theorem unscoped_eq (c : Dev nD) : (unscopedSems0 c : sProp 𝕄) = semVal (cell c .bar) 0 := by
  unfold unscopedSems0; rw [bigSep_eq_bigSepL_of_eq [SemLoc.reg barS] (by decide) (by decide)]; rfl

theorem zeros_eq (c : Dev nD) :
    iprop(unscopedSems0 c ∗ Pipeline.ownSems0 (Ix := Unit) (Name := ℕ) (U := UU) (Lvl := ℕ) (Val := Elt F) (τ := τ) own c)
      = (bigSep Finset.univ fun r => semVal (cell c r) 0 : sProp 𝕄) := by
  rw [own_eq, unscoped_eq, bigSep_roles]

/-! ## Every cell under its invariant -/

/-- One device's cells, each at zero and in its opening state, put under invariants. -/
theorem shelter (c : Dev nD) :
    iprop((bigSep Finset.univ fun r => semVal (cell c r) 0) ∗ bigSep Finset.univ fun r => roundState EX (Rd m) (cell c r) 0)
      ⊢ (|={Set.univ}=> bigSep Finset.univ fun r => iprop(∃ κ : ℕ, cellInv EX (Rd m) κ (cell c r)) : sProp 𝕄) := by
  rw [← bigSep_sep']
  exact (bigSep_mono fun r _ => (Rounds.body_intro EX (Rd m) (cell c r)).trans inv_alloc).trans (bigSep_fupd _ _)

/-- What device `c` holds of the exchange once the rights are where they are used, the credits apart. -/
def handed (c : Dev nD) : sProp 𝕄 :=
  iprop((place (F := F) c .bar ∗ (each fun k => place (F := F) c (.sent k)) ∗ (each fun k => place (F := F) c (.got k)))
    ∗ dutyTok EX (cell (across c) .bar) 0 () ∗ (each fun k => postage (F := F) c k))

/-- Every right to another device's cell is carried across. -/
theorem carry : (bigSep Finset.univ fun c : Dev nD => bigSep Finset.univ fun r => right (F := F) c r)
    = bigSep Finset.univ fun c : Dev nD => iprop(right (F := F) (across c) .bar ∗ (each fun k => right (F := F) c (.sent k))
        ∗ (each fun k => right (F := F) (across c) (.got k))) := by
  have h (P Q R : Dev nD → sProp 𝕄) : (bigSep Finset.univ fun c => iprop(P c ∗ Q c ∗ R c))
      = iprop(bigSep Finset.univ P ∗ bigSep Finset.univ Q ∗ bigSep Finset.univ R) := by rw [bigSep_sep', bigSep_sep']
  simp only [bigSep_roles]
  rw [h (fun c => right (F := F) c .bar) (fun c => each fun k => right (F := F) c (.sent k)) (fun c => each fun k => right (F := F) c (.got k)),
    h (fun c => right (F := F) (across c) .bar) (fun c => each fun k => right (F := F) c (.sent k))
      (fun c => each fun k => right (F := F) (across c) (.got k)),
    bigSep_univ_equiv swap (fun c : Dev nD => right (F := F) c .bar),
    bigSep_univ_equiv swap (fun c : Dev nD => each fun k => right (F := F) c (.got k))]
  rfl

/-- What the global step leaves device `c`. -/
def ready (c : Dev nD) : sProp 𝕄 := iprop((∃ K, known m K) ∗ handed (F := F) c)

theorem ready_intro (K : Dev nD × Role → ℕ) (c : Dev nD) :
    iprop(known m K ∗ (bigSep Finset.univ fun r => place (F := F) c r) ∗ right (F := F) (across c) .bar
        ∗ (each fun k => right (F := F) c (.sent k)) ∗ (each fun k => right (F := F) (across c) (.got k))) ⊢ ready m c := by
  rw [bigSep_roles]
  unfold ready handed postage
  iintro ⟨#Hk, Hp, Hb, ⟨S0, S1, S2, S3⟩, ⟨G0, G1, G2, G3⟩⟩
  isplitr; · iexists K; iexact Hk
  iframe Hp Hb S0 S1 S2 S3 G0 G1 G2 G3

/-- What is known is known on every device. -/
theorem ready_all (K : Dev nD × Role → ℕ) (Φ : Dev nD → sProp 𝕄) (h : ∀ c, iprop(known m K ∗ Φ c) ⊢ ready m c) :
    iprop(known m K ∗ bigSep Finset.univ Φ) ⊢ bigSep Finset.univ (ready m) := by
  refine .trans ?_ (bigSep_mono fun c _ => h c)
  rw [bigSep_sep']
  iintro ⟨#Hk, H⟩
  isplitr
  · iapply (BI.bigSep_of_persistent Finset.univ (known m K)); iexact Hk
  · iexact H

/-- The dealings of all the devices, regrouped. -/
theorem all_handed :
    (bigSep Finset.univ fun c : Dev nD => iprop((bigSep Finset.univ fun r => iprop(∃ κ : ℕ, cellInv EX (Rd m) κ (cell c r)))
          ∗ ((bigSep Finset.univ fun r => place (F := F) c r) ∗ bigSep Finset.univ fun r => reached EX (cell c r) 0)
          ∗ bigSep Finset.univ fun r => right (F := F) c r) : sProp 𝕄) ⊢ bigSep Finset.univ (ready m) := by
  rw [bigSep_sep', bigSep_sep', bigSep_sep', carry,
    ← bigSep_univ_prod (fun p : Dev nD × Role => iprop(∃ κ : ℕ, cellInv EX (Rd m) κ (at' p))),
    ← bigSep_univ_prod (fun p : Dev nD × Role => (reached EX (at' p) 0 : sProp 𝕄))]
  iintro ⟨Hi, ⟨Hp, #Hre⟩, Hr⟩
  ihave HK := (BI.bigSep_exists_pi Finset.univ (fun (p : Dev nD × Role) (κ : ℕ) => (cellInv EX (Rd m) κ (at' p) : sProp 𝕄))) $$ Hi
  icases HK with ⟨%K, #Hi⟩
  iapply (ready_all m K _ (ready_intro m K))
  isplitr
  · unfold known; isplitr; · iexact Hi
    iexact Hre
  · iapply (Entails.of_eq (bigSep_sep' Finset.univ (fun c : Dev nD => bigSep Finset.univ fun r => place (F := F) c r) _).symm)
    iframe Hp Hr

/-- The whole step: every device's semaphores and dealings at once. -/
theorem all_ready :
    (bigSep Finset.univ fun c => iprop(Pipeline.ownSems0 (Ix := Unit) (Name := ℕ) (U := UU) (Lvl := ℕ) (Val := Elt F) (τ := τ) own c
        ∗ unscopedSems0 c ∗ dealt m c) : sProp 𝕄) ⊢ |={Set.univ}=> bigSep Finset.univ (ready m) := by
  have h₁ (c : Dev nD) : iprop(Pipeline.ownSems0 (Ix := Unit) (Name := ℕ) (U := UU) (Lvl := ℕ) (Val := Elt F) (τ := τ) own c
        ∗ unscopedSems0 c ∗ dealt m c) ⊢ (|={Set.univ}=> iprop((bigSep Finset.univ fun r => iprop(∃ κ : ℕ, cellInv EX (Rd m) κ (cell c r)))
          ∗ ((bigSep Finset.univ fun r => place (F := F) c r) ∗ bigSep Finset.univ fun r => reached EX (cell c r) 0)
          ∗ bigSep Finset.univ fun r => right (F := F) c r) : sProp 𝕄) := by
    unfold dealt
    iintro ⟨Ho, Hu, Hst, Hp, Hr⟩
    ihave Hz := (Entails.of_eq (zeros_eq (F := F) c)) $$ [Ho Hu]
    · iframe Hu Ho
    imod (shelter m c) $$ [Hz Hst] with Hi
    · iframe Hz Hst
    imodintro
    iframe Hi Hp Hr
  exact ((bigSep_mono fun c _ => h₁ c).trans (bigSep_fupd _ _)).trans (BI.fupd_mono (all_handed m))

end Cert.KernelIdeal.Exchange

end
-- ==== Proof.KernelIdeal.Credits.lean ====
/-
What the devices owe one another at the launch, read as the credit each device's cells hold.
-/
module

public import proofs.«01_k».proof.Proof.KernelIdeal.Fund

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a cell is owed from across. -/
def due : Role → ℕ
  | .bar => 1
  | .sent _ => 0
  | .got _ => N

theorem owed_at (d c : Dev nD) (r : Role) : owedAtStart d (cell c r) () = if d = across c then due r else 0 := by
  unfold owedAtStart
  rw [Pi.add_apply, Finsupp.add_apply, pending_apply, tallyAt_apply]
  simp only [cell_eq_iff, and_true, Nat.zero_le, Finset.filter_true]
  by_cases h : d = across c
  · have h' : c = across d := by rw [h, across_across]
    rw [if_pos h]
    cases r with
    | bar =>
      rw [if_pos ⟨h', rfl⟩, Finset.sum_eq_zero fun k _ => if_neg fun hk => nomatch hk.2]
      rfl
    | sent j =>
      rw [if_neg (fun hk => nomatch hk.2), Finset.sum_eq_zero fun k _ => if_neg fun hk => nomatch hk.2]
      rfl
    | got j =>
      rw [if_neg (fun hk => nomatch hk.2), Finset.sum_eq_single j (fun k _ hk => if_neg fun hj => hk (Role.got.inj hj.2).symm)
        (fun hj => absurd (Finset.mem_univ j) hj), if_pos ⟨h', rfl⟩]
      rfl
  · have h' : ¬ c = across d := fun hc => h (by rw [hc, across_across])
    rw [if_neg h, if_neg (fun hk => h' hk.1), Finset.sum_eq_zero fun k _ => if_neg fun hk => h' hk.1]

theorem credit_at (c : Dev nD) (r : Role) :
    tallyOn (cell c r) (launchCredit (Pipeline.owing owedAtStart) 0 (cell c r)) = (tallyAt (cell c r) () (due r) : CellTallies nD τ sig Unit) := by
  unfold tallyAt; refine congrArg _ (Finsupp.ext fun u => ?_); cases u
  rw [Pipeline.launchCredit_owing, Finsupp.single_eq_same, Finset.sum_congr rfl fun d _ => owed_at d c r,
    Finset.sum_ite_eq' Finset.univ (across c) fun _ => due r, if_pos (Finset.mem_univ _)]

/-- The credits of all its cells hold those of its barrier and of its arrivals. -/
theorem credits_of (c : Dev nD) : (bigSep Finset.univ fun r => cred (tallyAt (cell c r) () (due r)) : sProp 𝕄)
    ⊢ iprop(cred (tallyAt (cell c .bar) () 1) ∗ (each fun k => cred (tallyAt (cell c (.got k)) () N))) := by
  rw [bigSep_roles]
  iintro ⟨Hb, -, Hg⟩
  isplitl [Hb]; · iexact Hb
  iexact Hg

/-- The credits device `c` starts with. -/
theorem credits (c : Dev nD) :
    (Pipeline.launchCred owedAtStart c : sProp 𝕄)
      ⊢ iprop(cred (tallyAt (cell c .bar) () 1) ∗ (each fun k => cred (tallyAt (cell c (.got k)) () N))) := by
  unfold Pipeline.launchCred
  refine (bigSep_subset (Finset.subset_univ (Finset.univ.map ⟨sem, sem_injective⟩))).trans ((Entails.of_eq ?_).trans (credits_of c))
  rw [bigSep_map]
  exact bigSep_congr fun r _ => congrArg cred (credit_at c r)

end Cert.KernelIdeal.Exchange

end
-- ==== Proof.KernelIdeal.Launch.lean ====
/-
The whole run: every device's launch, from any memory with the semaphores at zero, ends with its result array at the
sums, its argument unchanged and every semaphore back at zero.
-/
module

public import proofs.«01_k».proof.Proof.KernelIdeal.Credits
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem share_eq (c : Dev nD) (w : Fin cfg0.W) : (dats m 0 c).share w = fullShare := by
  unfold Dat.share; split <;> rfl

/-- What the launch opens with: the pipeline's cells beside the exchange's. -/
def opening : UU := (initOf (Pipeline.cells cfgs cellOf_inj) (Pipeline.launchToks cfgs cellOf_inj), initOf allCells allRights)

/-- The launch hands device `c` what its body starts with. -/
theorem start_of (c : Dev nD) :
    iprop(Pipeline.unscopedRestP Pipeline.Prefetch.none cfg0.spec c (fun b => m ((c : Thread nD τ).loc b)) ∗ levAts L lv
        ∗ Pipeline.launchCred owedAtStart c ∗ prngReg c (ρ c) ∗ ready m c)
      ⊢ |={Set.univ}=> iprop(start m c ∗ emp) := by
  unfold start ready handed tickets
  iintro ⟨-, Hlev, Hcr, -, Hk, Hp, Hb, Hm⟩
  ihave Hc := (credits (F := F) c) $$ Hcr
  icases Hc with ⟨H1, HN⟩
  imodintro
  isplitl
  · iframe Hk Hlev Hp Hb Hm H1 HN
  · iempintro

theorem entering (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ iprop(start m c ∗ scratch (F := F) c)
  rw [scopedRest0_eq]
  unfold scratch
  iintro ⟨Hs, -, ⟨%f, Hf⟩, ⟨%g, Hg⟩⟩
  iframe Hs
  isplitl [Hf]
  · iapply (apart c sM f); iapply (Entails.of_eq (owns_whole (c : Thread nD τ) cc0_scratch0 fullShare f).symm); iexact Hf
  · iapply (apart c rM g); iapply (Entails.of_eq (owns_whole (c : Thread nD τ) cc0_scratch1 fullShare g).symm); iexact Hg

theorem leaving (c : Dev nD) :
    (dats m 0 c).Φ (Fin.last cfg0.N)
      ⊢ iprop(unscopedSems0 c ∗ Pipeline.ownSems0 (Ix := Unit) (Name := ℕ) (U := UU) (Lvl := ℕ) (Val := Elt F) (τ := τ) own c
          ∗ Pipeline.scopedRest cfg0.spec c) := by
  show iprop(closed (F := F) c ∗ scratch (F := F) c) ⊢ _
  rw [scopedRest0_eq, own_eq, unscoped_eq]
  unfold closed scratch
  iintro ⟨⟨Hb, Hs, Hg⟩, Hf, Hr⟩
  isplitl [Hb]; · iexact Hb
  isplitl [Hs Hg]; · iframe Hs Hg
  ihave Hf := (together_free c sM) $$ Hf
  icases Hf with ⟨%f, Hf⟩
  ihave Hr := (together_free c rM) $$ Hr
  icases Hr with ⟨%g, Hr⟩
  isplitl [Hf]
  · iexists f; iapply (Entails.of_eq (owns_whole (c : Thread nD τ) cc0_scratch0 fullShare f)); iexact Hf
  · iexists g; iapply (Entails.of_eq (owns_whole (c : Thread nD τ) cc0_scratch1 fullShare g)); iexact Hr

theorem stages_wait (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- A window's array after the run. -/
def finalArr (c : Dev nD) (w : Fin cfg0.W) : Buf (Elt F) ((cfg0.win w).arr.view.loc (c : Thread nD τ)) := (dats m 0 c).arrAt w cfg0.N

def Ends : PUnit × MemSt nD τ sig (Elt F) → Prop := fun r =>
  ∀ c : Dev nD, ∀ w : Fin cfg0.W, r.2.mem ((cfg0.win w).arr.view.loc (c : Thread nD τ)) = finalArr m c w

set_option maxRecDepth 8000 in
theorem run_arrays : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := fun w => by fin_cases w <;> exact Nat.succ_pos _)
    (harr := arr_whole0) (hstage := stage_whole0) (hshare := share_eq m) (hdistinct := winFacts0.arr_inj)
    (O₀ := owedAtStart) (howed₀ := fun _ => rfl) (howedN := fun _ => rfl)
    (L := L) (lv := lv) (hL := L_of_ne) (hwaits := stages_wait m)
    (G := dealt m) (G' := ready m) (u₀ := opening)
    (hu₀ := by
      unfold opening
      iintro Hu
      ihave H := (ownU_pair _ _) $$ Hu
      icases H with ⟨HP, HX⟩
      imod (fund_all m) $$ HX with HG
      imodintro
      iframe HP HG)
    (hglob := all_ready m)
    (hA := fun _ _ => rfl) (hpf := fun _ k => k.elim0)
    (X := start m) (Y := fun c => unscopedSems0 c) (Z := fun _ => iprop(emp))
    (hX := start_of m ρ) (hin := entering m) (hout := leaving m)
    (QY := fun c s => ∀ sm : SemLoc sig, sm.isScoped .tc = false → s.sem ((c.tc : Thread nD τ), sm) = 0)
    (hY := fun c s => by
      iintro ⟨Hu, -, HSI⟩
      iapply (Pipeline.unscopedSems0_read (X := unscopedSems0 c) (c := c) fupd_intro s)
      iframe Hu HSI)
    (hQ := fun _ h hs => ⟨fun c w => (h c).1 w, sem_eq_zero hs fun c => (h c).2.2⟩)

/-! ## The arrays after the run -/

/-- Both windows show the whole array. -/
theorem whole_in : (fun a => (win0_0.index (0 : Fin 1)) a * main_arg0.ty.shape.size a) = fun _ => 0 :=
  funext fun a => by fin_cases a <;> decide
theorem whole_out : (fun a => (win0_1.index (0 : Fin 1)) a * main_v1.ty.shape.size a) = fun _ => 0 :=
  funext fun a => by fin_cases a <;> decide

theorem arg_eq (c : Dev nD) : arg m c = m ((c : Thread nD τ).loc main_arg0) :=
  Memref.read_access_unit_zero (Elt F) main_arg0 whole_in (fun a => by fin_cases a <;> decide) _

theorem final_in (c : Dev nD) : finalArr m c (0 : Fin 2) = m ((c : Thread nD τ).loc main_arg0) :=
  (dats (F := F) m 0 c).arrAt_in (0 : Fin 2) rfl _

theorem final_out (c : Dev nD) : finalArr m c (1 : Fin 2) = result m c := by
  have h : (win0_1.blk (0 : Fin 1)).view.read (Elt F) (finalArr m c (1 : Fin 2)) = result m c := by
    unfold finalArr
    rw [show cfg0.N = ((0 : Fin 1) : Fin cfg0.N).val + 1 from rfl, (dats m 0 c).arrAt_succ (1 : Fin 2) (0 : Fin 1),
      if_pos (show (cfg0.win (1 : Fin 2)).flush (0 : Fin 1) = true from by decide)]
    exact View.read_write_univ _ _
  exact (Memref.read_access_unit_zero (Elt F) main_v1 whole_out (fun a => by fin_cases a <;> decide) _).symm.trans h

/-- Every run ends, on every device with the result array at the sums, the argument unchanged, and no semaphore raised. -/
theorem run_main : θ_run defs (onTc (τ := τ) (main (F := F))) ⟨m, fun _ => 0, ρ⟩ fun r =>
    (∀ c : Dev nD, r.2.mem ((c : Thread nD τ).loc main_v1) = result m c
      ∧ r.2.mem ((c : Thread nD τ).loc main_arg0) = m ((c : Thread nD τ).loc main_arg0)) ∧ r.2.sem = fun _ => 0 :=
  (θ_run defs _ _).mono (fun _ h => ⟨fun c => ⟨(h.1 c (1 : Fin 2)).trans (final_out m c), (h.1 c (0 : Fin 2)).trans (final_in m c)⟩, h.2⟩)
    (run_arrays m ρ)

end Cert.KernelIdeal.Exchange

end
-- ==== Proof.KernelIdeal.Value.lean ====
/-
What the kernel leaves over the reals: at each place of device `c`'s result, its own argument's element in the columns of
its side plus the element at the same place of the argument of the device across.
-/
module

public import proofs.«01_k».proof.Proof.KernelIdeal.Chunks
public import Idealize.ShloMosaic.PureOps.Ideal
public import Idealize.ShloMosaic.Lib.Pointwise
public import Idealize.ShloMosaic.Lib.Pipeline.Value

@[expose] public section

noncomputable section

namespace Cert.KernelIdeal.Exchange

open Cert.KernelIdeal Cert.KernelIdeal.Gen

open Idealize.ShloMosaic
open Idealize.ShloMosaic.TcCoe

/-- The place of an argument block at row `r` of column `s` of side `b`'s half. -/
def spot (b : Fin 2) (r s : Fin 512) : S1x512x1024.Idx :=
  ix3 (0 : Fin 1) r ⟨512 * b.val + s.val, by have := b.isLt; have := s.isLt; omega⟩

variable {F : FTy → Type} [FloatOps F] (m : (ℓ : Loc nD τ sig) → Buf (Elt F) ℓ)

/-- A chunk of an argument block, its unit axis dropped, reads the block at the chunk's rows and the side's columns. -/
theorem argPart_at (c : Dev nD) (k : Fin 4) (b : Fin 2) (j : S128x512.Idx) :
    shapeCast S128x512 (argPart m c k b) shapeCasts_S1x128x512_S128x512 j
      = arg m c (spot b ⟨128 * k.val + (j 0).val, by have := k.isLt; have h : (j 0).val < 128 := (j 0).isLt; omega⟩ (j 1)) := by
  rw [shapeCast_dropUnit_apply]
  show arg m c ((block k b).toLoadRect.idx _) = _
  congr 1
  funext a
  apply Fin.ext
  fin_cases a
  · show 0 + 1 * 0 = 0; rfl
  · show 128 * k.val + 1 * (j 0).val = 128 * k.val + (j 0).val; omega
  · show 512 * b.val + 1 * (j 1).val = 512 * b.val + (j 1).val; omega

/-- A device's argument and its result, over the reals. -/
abbrev argReal (m : (ℓ : Loc nD τ sig) → Buf (Elt Ideal) ℓ) (c : Dev nD) : S1x512x1024.Idx → EReal := arg m c
abbrev resultReal (m : (ℓ : Loc nD τ sig) → Buf (Elt Ideal) ℓ) (c : Dev nD) : S512x512.Idx → EReal := result m c

/-- What comes from across is the other device's columns of this side. -/
theorem sent_across (c : Dev nD) (k : Fin 4) :
    sent m (across c) k = shapeCast S128x512 (argPart m (across c) k (side c)) shapeCasts_S1x128x512_S128x512 := by
  unfold sent
  rw [side_across, flip_flip]
  exact shapeCast_self _ _

/-- A chunk of the result, element by element. -/
theorem kept_at (m : (ℓ : Loc nD τ sig) → Buf (Elt Ideal) ℓ) (c : Dev nD) (k : Fin 4) (j : S128x512.Idx) (r : Fin 512)
    (hr : 128 * k.val + (j 0).val = r.val) :
    kept m c k j = argReal m c (spot (side c) r (j 1)) + argReal m (across c) (spot (side c) r (j 1)) := by
  unfold kept
  rw [sent_across]
  obtain ⟨r, _⟩ := r
  subst hr
  exact congrArg₂ (fun a b : EReal => a + b) (argPart_at m c k (side c) j) (argPart_at m (across c) k (side c) j)

/-- The kernel's sum, element by element. -/
theorem result_at (m : (ℓ : Loc nD τ sig) → Buf (Elt Ideal) ℓ) (c : Dev nD) (i : S512x512.Idx) :
    resultReal m c i = argReal m c (spot (side c) (i 0) (i 1)) + argReal m (across c) (spot (side c) (i 0) (i 1)) :=
  kept_at m c _ _ (i 0) (Nat.div_add_mod ..)

end Cert.KernelIdeal.Exchange

end
-- ==== Proof.Sum.lean ====
/-
What the reference computes over the reals, element by element, and its blocks: device `c`'s block of the result is the
sum of the two arguments' blocks that the kernel adds.
-/
module

public import proofs.«01_k».proof.Proof.KernelIdeal.Value
public import proofs.«01_k».proof.Proof.Gen.ReferenceIdeal
public import Idealize.ShloMosaic.Lib.Layout
public import Idealize.ShloMosaic.Lib.Pointwise

@[expose] public section

noncomputable section

namespace Cert.Sum

open Idealize.ShloMosaic
open Cert.KernelIdeal.Exchange (side flip across spot side_across result_at)

abbrev Whole : Shape := ⟨3, ![2, 512, 1024]⟩
abbrev Out : Shape := ⟨2, ![512, 1024]⟩

/-- Device `c`'s block of the argument, -/
abbrev half {α : Type} (x : Whole.Idx → α) (c : Fin 8) : (⟨3, ![1, 512, 1024]⟩ : Shape).Idx → α :=
  Layout.blockN ⟨3, ![1, 512, 1024]⟩ Whole (Layout.meshBlock [2, 2, 2] ![[0], [], []] c) x

/-- and of the result. -/
abbrev columns {α : Type} (v : Out.Idx → α) (c : Fin 8) : (⟨2, ![512, 512]⟩ : Shape).Idx → α :=
  Layout.blockN ⟨2, ![512, 512]⟩ Out (Layout.meshBlock [2, 2, 2] ![[], [0]] c) v

open Cert.ReferenceIdeal.Gen in
/-- The reference's result, as its operations compose it. -/
def total (x : FVec Ideal Whole .bf16) : FVec Ideal Out .f32 :=
  extf .f32 (truncf .bf16 (Host.reduceAdd (extf .f32 x bitsLt_bf16_f32)
    (constant Cert.ReferenceIdeal.S_ .f32 0x00000000#32) reducesTo_S2x512x1024_S512x1024_d0 h_S_) bitsLt_bf16_f32) bitsLt_bf16_f32

/-- Over the reals it is the sum of the two halves. -/
theorem total_at (x : FVec Ideal Whole .bf16) (i : Out.Idx) :
    (total x i : EReal) = ∑ k : Fin 2, (x (ix3 k (i 0) (i 1)) : EReal) := by
  show Ideal.hostReduceAdd _ x (Ideal.ofBits .f32 0x00000000#32) i = _
  rw [Ideal.hostReduceAdd_r3_a0, show Ideal.ofBits .f32 0x00000000#32 = 0 from Ideal.ofBits_zero .f32, zero_add]
  rfl

/-- A sum over the two sides, started from either. -/
theorem both_sides (f : Fin 2 → EReal) (b : Fin 2) : f b + f (flip b) = ∑ k : Fin 2, f k := by
  rw [Fin.sum_univ_two]
  fin_cases b
  · rfl
  · exact add_comm _ _

/-- A device's side is its coordinate along the mesh's first axis. -/
theorem side_lin (c : Fin 8) : Layout.meshLin [2, 2, 2] c.val [0] = (side c).val := by revert c; decide

/-- Device `c`'s block of an argument is the half of its side. -/
theorem half_at (x : FVec Ideal Whole .bf16) (c : Fin 8) (b : Fin 2) (r s : Fin 512) :
    half x c (spot b r s)
      = x (ix3 (side c) r ⟨512 * b.val + s.val, by have := b.isLt; have := s.isLt; omega⟩) := by
  refine congrArg x (funext fun a => Fin.ext ?_)
  fin_cases a
  · show Layout.meshLin [2, 2, 2] c.val [0] * 1 + 0 = (side c).val
    rw [side_lin]; omega
  · show 0 * 512 + r.val = r.val; omega
  · show 0 * 1024 + (512 * b.val + s.val) = 512 * b.val + s.val; omega

/-- Device `c`'s block of a result is the columns of its side. -/
theorem columns_at (v : FVec Ideal Out .f32) (c : Fin 8) (i : (⟨2, ![512, 512]⟩ : Shape).Idx) :
    columns v c i
      = v (ix2 (i 0) ⟨512 * (side c).val + (i 1).val, by have := (side c).isLt; have h : (i 1).val < 512 := (i 1).isLt; omega⟩) := by
  refine congrArg v (funext fun a => Fin.ext ?_)
  fin_cases a
  · show 0 * 512 + (i 0).val = (i 0).val; omega
  · show Layout.meshLin [2, 2, 2] c.val [0] * 512 + (i 1).val = 512 * (side c).val + (i 1).val
    rw [side_lin]; omega

open Cert.KernelIdeal in
/-- Where every device holds its block of `x`, the kernel's result is its block of the reference's. -/
theorem result_block (m : (ℓ : Loc nD τ sig) → Buf (Elt Ideal) ℓ) (x : FVec Ideal Whole .bf16) (c : Fin 8)
    (h : ∀ d : Fin 8, Cert.KernelIdeal.Exchange.arg m d = half x d) :
    Cert.KernelIdeal.Exchange.result m c = columns (total x) c := by
  funext i
  refine (result_at m c i).trans ?_
  refine (congrArg₂ (fun a b : EReal => a + b) ((congrFun (h c) _).trans (half_at x c (side c) (i 0) (i 1)))
    ((congrFun (h (across c)) _).trans (half_at x (across c) (side c) (i 0) (i 1)))).trans ?_
  refine Eq.trans ?_ ((columns_at (total x) c i).trans (total_at x _)).symm
  rw [side_across]
  exact both_sides (fun b => (x (ix3 b (i 0) ⟨512 * (side c).val + (i 1).val, _⟩) : EReal)) (side c)

end Cert.Sum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Sum
public import Idealize.ShloMosaic.Adequacy
public import Idealize.ShloMosaic.Init

@[expose] public section

noncomputable section

namespace Cert.Proof

open Idealize.ShloMosaic Idealize.SL.Sem Cert.Kernel

/-- The kernel ends, its argument unchanged and its semaphores at zero, at any float words. -/
theorem frame_kernel : Cert.quiescent_Kernel := fun m ρ _ =>
  (θ_run _ _ _).mono (fun _ h => ⟨fun c => (h.1 c).2, h.2⟩) (Cert.Kernel.Exchange.run_main (F := Bits) m ρ)

/-- The same over the reals. -/
theorem frame_ideal : Cert.quiescent_KernelIdeal := fun m ρ _ =>
  (θ_run _ _ _).mono (fun _ h => ⟨fun c => (h.1 c).2, h.2⟩) (Cert.KernelIdeal.Exchange.run_main (F := Ideal) m ρ)

/-- The reference ends, its argument unchanged; it has no semaphores. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- Every device's result is its block of the reference's. -/
theorem values : Cert.algebraic_KernelIdeal_ReferenceIdeal := fun m ρ m' ρ' _ hx =>
  ⟨Cert.Sum.total (m' (((0 : Dev Cert.ReferenceIdeal.nD).tc : Thread _ Cert.ReferenceIdeal.τ).loc Cert.ReferenceIdeal.main_arg0)),
    (θ_run _ _ _).mono (fun _ h c => ⟨(h.1 c).1.trans (Cert.Sum.result_block m _ c fun d =>
      (Cert.KernelIdeal.Exchange.arg_eq m d).trans (hx d)), (h.1 c).2⟩) (Cert.KernelIdeal.Exchange.run_main (F := Ideal) m ρ),
    (θ_run _ _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, values⟩

end Cert.Proof

end
